-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_pair_up [hPre_edges_pair_up : Cert.Pre_edges_pair_up.Facts] (m : (ℓ : Loc Cert.KernelIdeal.nD Cert.KernelIdeal.τ Cert.KernelIdeal.sig) → Buf (Elt Ideal) ℓ) : Prop :=
  ∀ c : Dev Cert.KernelIdeal.nD,
    (Cert.Pre_edges_pair_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_pair_up [hPre_edges_pair_up : Cert.Pre_edges_pair_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_pair_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_edges_pair_up [hKernelIdeal : Cert.KernelIdeal.Facts] [hPre_edges_pair_up : Cert.Pre_edges_pair_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_pair_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_edges_pair_up [hReferenceIdeal : Cert.ReferenceIdeal.Facts] [hPre_edges_pair_up : Cert.Pre_edges_pair_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_pair_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_edges_pair_up [hKernelIdeal : Cert.KernelIdeal.Facts] [hReferenceIdeal : Cert.ReferenceIdeal.Facts] [hPre_edges_pair_up : Cert.Pre_edges_pair_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_pair_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_edges_pair_up : Cert.Pre_edges_pair_up.Facts),
    quiescent_Kernel (hKernel := hKernel)
    ∧ quiescent_KernelIdeal (hKernelIdeal := hKernelIdeal)
    ∧ quiescent_KernelIdeal_pre_edges_pair_up (hKernelIdeal := hKernelIdeal) (hPre_edges_pair_up := hPre_edges_pair_up)
    ∧ quiescent_ReferenceIdeal (hReferenceIdeal := hReferenceIdeal)
    ∧ quiescent_ReferenceIdeal_pre_edges_pair_up (hReferenceIdeal := hReferenceIdeal) (hPre_edges_pair_up := hPre_edges_pair_up)
    ∧ preserves_Kernel_KernelIdeal
    ∧ algebraic_KernelIdeal_ReferenceIdeal_pre_edges_pair_up (hKernelIdeal := hKernelIdeal) (hReferenceIdeal := hReferenceIdeal) (hPre_edges_pair_up := hPre_edges_pair_up)
-- ==== Pre_edges_pair_up.lean ====
abbrev S4x8x1x256x256 : Shape := ⟨5, ![4, 8, 1, 256, 256]⟩
abbrev S4x4x1x256x256 : Shape := ⟨5, ![4, 4, 1, 256, 256]⟩
abbrev S4x2 : Shape := ⟨2, ![4, 2]⟩
abbrev S8 : Shape := ⟨1, ![8]⟩

class Facts : Prop where
  shapeCasts_S8_S4x2 : S8.ShapeCasts S4x2

variable [Facts]

def fn {F : FTy → Type} [FloatOps F] (main_arg0 : FVec F S4x8x1x256x256 .f32) (main_arg1 : FVec F S4x4x1x256x256 .f32) (main_arg2 : IVec S4x2 32) : IVec S4x2 1 :=
  let main_v0 : IVec S8 32 := iotaInDim S8 32 0
  let main_v1 : IVec S4x2 32 := shapeCast S4x2 main_v0 shapeCasts_S8_S4x2
  let main_v2 : IVec S4x2 1 := cmpi .eq main_arg2 main_v1
  main_v2
-- ==== Kernel.lean ====
abbrev S4x8x1x256x256 : Shape := ⟨5, ![4, 8, 1, 256, 256]⟩
abbrev S4x4x1x256x256 : Shape := ⟨5, ![4, 4, 1, 256, 256]⟩
abbrev S4x2 : Shape := ⟨2, ![4, 2]⟩
abbrev S2x8x1x256x256 : Shape := ⟨5, ![2, 8, 1, 256, 256]⟩
abbrev S2x4x1x256x256 : Shape := ⟨5, ![2, 4, 1, 256, 256]⟩
abbrev S2x4 : Shape := ⟨2, ![2, 4]⟩
abbrev S1x1 : Shape := ⟨2, ![1, 1]⟩
abbrev S_ : Shape := ⟨0, ![]⟩
abbrev S1x2x1x256x256 : Shape := ⟨5, ![1, 2, 1, 256, 256]⟩
abbrev S2x1x256x256 : Shape := ⟨4, ![2, 1, 256, 256]⟩
abbrev S1x1x1x256x256 : Shape := ⟨5, ![1, 1, 1, 256, 256]⟩
abbrev S1x1x256x256 : Shape := ⟨4, ![1, 1, 256, 256]⟩
abbrev S256x256 : Shape := ⟨2, ![256, 256]⟩

abbrev nBuf : Space → Nat
  | .hbm => 4
  | .vmem => 3
  | .smem => 0
  | _ => 0

abbrev bufTy : (tb : Table) → Fin (tcTables nBuf tb) → BufTy
  | .hbm, ⟨0, _⟩ => ⟨S4x8x1x256x256, .f32⟩
  | .hbm, ⟨1, _⟩ => ⟨S4x4x1x256x256, .f32⟩
  | .hbm, ⟨2, _⟩ => ⟨S4x2, .i32⟩
  | .hbm, ⟨3, _⟩ => ⟨S4x8x1x256x256, .f32⟩
  | .local _ .vmem, ⟨0, _⟩ => ⟨S2x8x1x256x256, .f32⟩
  | .local _ .vmem, ⟨1, _⟩ => ⟨S2x4x1x256x256, .f32⟩
  | .local _ .vmem, ⟨2, _⟩ => ⟨S2x8x1x256x256, .f32⟩
  | _, _ => ⟨S4x8x1x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== ReferenceIdeal.lean ====
abbrev S4x8x1x256x256 : Shape := ⟨5, ![4, 8, 1, 256, 256]⟩
abbrev S4x4x1x256x256 : Shape := ⟨5, ![4, 4, 1, 256, 256]⟩
abbrev S4x2 : Shape := ⟨2, ![4, 2]⟩
abbrev S4x8x256x256 : Shape := ⟨4, ![4, 8, 256, 256]⟩
abbrev S4x256x256x8 : Shape := ⟨4, ![4, 256, 256, 8]⟩
abbrev S262144x8 : Shape := ⟨2, ![262144, 8]⟩
abbrev S4x4x256x256 : Shape := ⟨4, ![4, 4, 256, 256]⟩
abbrev S4x256x256x4 : Shape := ⟨4, ![4, 256, 256, 4]⟩
abbrev S262144x4 : Shape := ⟨2, ![262144, 4]⟩
abbrev S_ : Shape := ⟨0, ![]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S4x1 : Shape := ⟨2, ![4, 1]⟩
abbrev S4 : Shape := ⟨1, ![4]⟩
abbrev S256x4 : Shape := ⟨2, ![256, 4]⟩
abbrev S8x256 : Shape := ⟨2, ![8, 256]⟩
abbrev S262144x256 : Shape := ⟨2, ![262144, 256]⟩
abbrev S4x256 : Shape := ⟨2, ![4, 256]⟩
abbrev S262144 : Shape := ⟨1, ![262144]⟩
abbrev S262144x1 : Shape := ⟨2, ![262144, 1]⟩
abbrev S1 : Shape := ⟨1, ![1]⟩
abbrev S1x1 : Shape := ⟨2, ![1, 1]⟩
abbrev S4x256x256x8x1 : Shape := ⟨5, ![4, 256, 256, 8, 1]⟩

abbrev nBuf : Space → Nat
  | .hbm => 113
  | .vmem => 0
  | .smem => 0
  | _ => 0

abbrev bufTy : (tb : Table) → Fin (tcTables nBuf tb) → BufTy
  | .hbm, ⟨0, _⟩ => ⟨S4x8x1x256x256, .f32⟩
  | .hbm, ⟨1, _⟩ => ⟨S4x4x1x256x256, .f32⟩
  | .hbm, ⟨2, _⟩ => ⟨S4x2, .i32⟩
  | .hbm, ⟨3, _⟩ => ⟨S4x8x256x256, .f32⟩
  | .hbm, ⟨4, _⟩ => ⟨S4x256x256x8, .f32⟩
  | .hbm, ⟨5, _⟩ => ⟨S262144x8, .f32⟩
  | .hbm, ⟨6, _⟩ => ⟨S4x4x256x256, .f32⟩
  | .hbm, ⟨7, _⟩ => ⟨S4x256x256x4, .f32⟩
  | .hbm, ⟨8, _⟩ => ⟨S262144x4, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S262144x8, .f32⟩
  | .hbm, ⟨13, _⟩ => ⟨S262144x8, .f32⟩
  | .hbm, ⟨14, _⟩ => ⟨S_, .f32⟩
  | .hbm, ⟨15, _⟩ => ⟨S262144x8, .f32⟩
  | .hbm, ⟨16, _⟩ => ⟨S262144x8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S262144x4, .f32⟩
  | .hbm, ⟨21, _⟩ => ⟨S262144x4, .f32⟩
  | .hbm, ⟨22, _⟩ => ⟨S_, .f32⟩
  | .hbm, ⟨23, _⟩ => ⟨S262144x4, .f32⟩
  | .hbm, ⟨24, _⟩ => ⟨S262144x4, .f32⟩
  | .hbm, ⟨25, _⟩ => ⟨S256, .i32⟩
  | .hbm, ⟨26, _⟩ => ⟨S256x1, .i32⟩
  | .hbm, ⟨27, _⟩ => ⟨S8, .i32⟩
  | .hbm, ⟨28, _⟩ => ⟨S1x8, .i32⟩
  | .hbm, ⟨29, _⟩ => ⟨S256x8, .i32⟩
  | .hbm, ⟨30, _⟩ => ⟨S256x8, .i32⟩
  | .hbm, ⟨31, _⟩ => ⟨S256x8, .i32⟩
  | .hbm, ⟨32, _⟩ => ⟨S_, .i32⟩
  | .hbm, ⟨33, _⟩ => ⟨S256x8, .i32⟩
  | .hbm, ⟨34, _⟩ => ⟨S256x8, .i32⟩
  | .hbm, ⟨35, _⟩ => ⟨S256x8, .f32⟩
  | .hbm, ⟨36, _⟩ => ⟨S4x1, .i32⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i1⟩
  | .hbm, ⟨41, _⟩ => ⟨S_, .i32⟩
  | .hbm, ⟨42, _⟩ => ⟨S4, .i32⟩
  | .hbm, ⟨43, _⟩ => ⟨S4, .i32⟩
  | .hbm, ⟨44, _⟩ => ⟨S4, .i32⟩
  | .hbm, ⟨45, _⟩ => ⟨S4x1, .i32⟩
  | .hbm, ⟨46, _⟩ => ⟨S256x4, .f32⟩
  | .hbm, ⟨47, _⟩ => ⟨S4x1, .i32⟩
  | .hbm, ⟨48, _⟩ => ⟨S4, .i32⟩
  | .hbm, ⟨49, _⟩ => ⟨S_, .i32⟩
  | .hbm, ⟨50, _⟩ => ⟨S4, .i32⟩
  | .hbm, ⟨51, _⟩ => ⟨S4, .i1⟩
  | .hbm, ⟨52, _⟩ => ⟨S_, .i32⟩
  | .hbm, ⟨53, _⟩ => ⟨S4, .i32⟩
  | .hbm, ⟨54, _⟩ => ⟨S4, .i32⟩
  | .hbm, ⟨55, _⟩ => ⟨S4, .i32⟩
  | .hbm, ⟨56, _⟩ => ⟨S4x1, .i32⟩
  | .hbm, ⟨57, _⟩ => ⟨S256x4, .f32⟩
  | .hbm, ⟨58, _⟩ => ⟨S256x4, .f32⟩
  | .hbm, ⟨59, _⟩ => ⟨S256x4, .f32⟩
  | .hbm, ⟨60, _⟩ => ⟨S262144x8, .f32⟩
  | .hbm, ⟨61, _⟩ => ⟨S8x256, .f32⟩
  | .hbm, ⟨62, _⟩ => ⟨S262144x256, .f32⟩
  | .hbm, ⟨63, _⟩ => ⟨S262144x8, .f32⟩
  | .hbm, ⟨64, _⟩ => ⟨S262144x8, .f32⟩
  | .hbm, ⟨65, _⟩ => ⟨S_, .f32⟩
  | .hbm, ⟨66, _⟩ => ⟨S256x8, .f32⟩
  | .hbm, ⟨67, _⟩ => ⟨S256x8, .f32⟩
  | .hbm, ⟨68, _⟩ => ⟨S8x256, .f32⟩
  | .hbm, ⟨69, _⟩ => ⟨S262144x256, .f32⟩
  | .hbm, ⟨70, _⟩ => ⟨S262144x256, .f32⟩
  | .hbm, ⟨71, _⟩ => ⟨S262144x4, .f32⟩
  | .hbm, ⟨72, _⟩ => ⟨S4x256, .f32⟩
  | .hbm, ⟨73, _⟩ => ⟨S262144x256, .f32⟩
  | .hbm, ⟨74, _⟩ => ⟨S262144x256, .f32⟩
  | .hbm, ⟨75, _⟩ => ⟨S262144x4, .f32⟩
  | .hbm, ⟨76, _⟩ => ⟨S262144x4, .f32⟩
  | .hbm, ⟨77, _⟩ => ⟨S_, .f32⟩
  | .hbm, ⟨78, _⟩ => ⟨S256x4, .f32⟩
  | .hbm, ⟨79, _⟩ => ⟨S256x4, .f32⟩
  | .hbm, ⟨80, _⟩ => ⟨S4x256, .f32⟩
  | .hbm, ⟨81, _⟩ => ⟨S262144x256, .f32⟩
  | .hbm, ⟨82, _⟩ => ⟨S262144x256, .f32⟩
  | .hbm, ⟨83, _⟩ => ⟨S262144x256, .i32⟩
  | .hbm, ⟨84, _⟩ => ⟨S_, .f32⟩
  | .hbm, ⟨85, _⟩ => ⟨S_, .i32⟩
  | .hbm, ⟨86, _⟩ => ⟨S262144, .f32⟩
  | .hbm, ⟨87, _⟩ => ⟨S262144, .i32⟩
  | .hbm, ⟨88, _⟩ => ⟨S_, .i32⟩
  | .hbm, ⟨89, _⟩ => ⟨S262144, .i32⟩
  | .hbm, ⟨90, _⟩ => ⟨S262144, .i1⟩
  | .hbm, ⟨91, _⟩ => ⟨S_, .i32⟩
  | .hbm, ⟨92, _⟩ => ⟨S262144, .i32⟩
  | .hbm, ⟨93, _⟩ => ⟨S262144, .i32⟩
  | .hbm, ⟨94, _⟩ => ⟨S262144, .i32⟩
  | .hbm, ⟨95, _⟩ => ⟨S262144x1, .i32⟩
  | .hbm, ⟨96, _⟩ => ⟨S1, .i32⟩
  | .hbm, ⟨97, _⟩ => ⟨S_, .i32⟩
  | .hbm, ⟨98, _⟩ => ⟨S262144x1, .i32⟩
  | .hbm, ⟨99, _⟩ => ⟨S262144x1, .i1⟩
  | .hbm, ⟨100, _⟩ => ⟨S1x1, .i32⟩
  | .hbm, ⟨101, _⟩ => ⟨S262144x1, .i32⟩
  | .hbm, ⟨102, _⟩ => ⟨S262144x1, .i1⟩
  | .hbm, ⟨103, _⟩ => ⟨S262144x1, .i1⟩
  | .hbm, ⟨104, _⟩ => ⟨S_, .i1⟩
  | .hbm, ⟨105, _⟩ => ⟨S262144, .i1⟩
  | .hbm, ⟨106, _⟩ => ⟨S262144x8, .f32⟩
  | .hbm, ⟨107, _⟩ => ⟨S262144x8, .i1⟩
  | .hbm, ⟨108, _⟩ => ⟨S_, .f32⟩
  | .hbm, ⟨109, _⟩ => ⟨S262144x8, .f32⟩
  | .hbm, ⟨110, _⟩ => ⟨S262144x8, .f32⟩
  | .hbm, ⟨111, _⟩ => ⟨S4x256x256x8x1, .f32⟩
  | .hbm, ⟨112, _⟩ => ⟨S4x8x1x256x256, .f32⟩
  | _, _ => ⟨S4x8x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_cst_1 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call2_v0 : Ref sig .tc := ⟨.hbm, 83, rfl⟩
abbrev main_call2_cst : Ref sig .tc := ⟨.hbm, 84, rfl⟩
abbrev main_call2_c : Ref sig .tc := ⟨.hbm, 85, rfl⟩
abbrev main_call2_v1_0 : Ref sig .tc := ⟨.hbm, 86, rfl⟩
abbrev main_v59 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩

abbrev nD : Nat := 1
abbrev τ : Topo := Topo.v7x

variable {F : FTy → Type} [FloatOps F]
-- ==== Proof.Body.lean ====
/-
  The kernel's body as a list of steps. The grid has no point but one, and the body is a straight line of copies,
  waits, loads and stores; read in order it is the same few steps over and over, for a batch row `s : Fin 4` and a
  pair of nodes `n : Fin 4`: start the copies in, wait for them, compute and store, start the copy out, wait for it.
  Here are the views each step names, the steps, and the body as the list of them (`body_eq`).
-/
module

public import proofs.«01_k».proof.Proof.Gen.Kernel.Launch
public import proofs.«01_k».proof.Proof.Gen.Kernel.Points
public import Idealize.ShloMosaic.Lib.Ring
public import Idealize.ShloMosaic.Lib.Tactic

@[expose] public section

set_option maxRecDepth 16384

noncomputable section

namespace Cert.Proof.Body

open Cert.Kernel Cert.Kernel.Gen
open Idealize.ShloMosaic Idealize.ShloMosaic.TcCoe Idealize.ShloMosaic.Tactic
open Idealize.SL Idealize.SL.Sem

variable {F : FTy → Type} [FloatOps F]

/-! ## Offsets: batch row `s`, slot `s % 2`, pair `n` -/

theorem off_inb {A B a b k : ℕ} (ha : a + 1 ≤ A) (hb : b + k ≤ B) :
    ∀ i : Fin 5, (![a, b, 0, 0, 0] : Fin 5 → ℕ) i + (⟨5, ![1, k, 1, 256, 256]⟩ : Shape).size i ≤ (⟨5, ![A, B, 1, 256, 256]⟩ : Shape).size i := by
  intro i; fin_cases i
  · exact ha
  · exact hb
  · exact Nat.le_refl 1
  · exact Nat.le_refl 256
  · exact Nat.le_refl 256

theorem sem_inb {a b : ℕ} (ha : a + 1 ≤ 2) (hb : b + 1 ≤ 4) :
    ∀ i : Fin 2, (![a, b] : Fin 2 → ℕ) i + S1x1.size i ≤ S2x4.size i := by
  intro i; fin_cases i
  · exact ha
  · exact hb

/-- The slot batch row `s` passes through. -/
abbrev sl (s : Fin 4) : Fin 2 := ⟨s.val % 2, Nat.mod_lt _ (by decide)⟩

theorem row_le (s : Fin 4) : s.val + 1 ≤ 4 := s.isLt
theorem slot_le (r : Fin 2) : r.val + 1 ≤ 2 := r.isLt
theorem pair_le (n : Fin 4) : 2 * n.val + 2 ≤ 8 := by have := n.isLt; omega
theorem fst_le (n : Fin 4) : 2 * n.val + 1 ≤ 8 := by have := n.isLt; omega
theorem snd_le (n : Fin 4) : 2 * n.val + 1 + 1 ≤ 8 := by have := n.isLt; omega

/-! ## The views the steps name -/

/-- Rows `2n`, `2n+1` of batch row `s` of the node probabilities. -/
abbrev pSrc (s n : Fin 4) : Memref sig .tc .hbm S2x1x256x256 .f32 :=
  ((Memref.whole main_arg0).slice (Rect.unit (s := S4x8x1x256x256) ![s.val, 2 * n.val, 0, 0, 0] S1x2x1x256x256.size (off_inb (row_le s) (pair_le n))) (fun _ => rfl)).squeeze
    S2x1x256x256 squeezes_S1x2x1x256x256_S2x1x256x256
/-- Row `n` of batch row `s` of the change probabilities. -/
abbrev cSrc (s n : Fin 4) : Memref sig .tc .hbm S1x1x256x256 .f32 :=
  ((Memref.whole main_arg1).slice (Rect.unit (s := S4x4x1x256x256) ![s.val, n.val, 0, 0, 0] S1x1x1x256x256.size (off_inb (row_le s) (row_le n))) (fun _ => rfl)).squeeze
    S1x1x256x256 squeezes_S1x1x1x256x256_S1x1x256x256
/-- Rows `2n`, `2n+1` of batch row `s` of the result. -/
abbrev oDst (s n : Fin 4) : Memref sig .tc .hbm S2x1x256x256 .f32 :=
  ((Memref.whole main_v0).slice (Rect.unit (s := S4x8x1x256x256) ![s.val, 2 * n.val, 0, 0, 0] S1x2x1x256x256.size (off_inb (row_le s) (pair_le n))) (fun _ => rfl)).squeeze
    S2x1x256x256 squeezes_S1x2x1x256x256_S2x1x256x256
/-- Pair `n`'s rows of slot `r` of the three scratch buffers. -/
abbrev pBuf (r : Fin 2) (n : Fin 4) : Memref sig .tc .vmem S2x1x256x256 .f32 :=
  ((Memref.whole cc0_scratch0).slice (Rect.unit (s := S2x8x1x256x256) ![r.val, 2 * n.val, 0, 0, 0] S1x2x1x256x256.size (off_inb (slot_le r) (pair_le n))) (fun _ => rfl)).squeeze
    S2x1x256x256 squeezes_S1x2x1x256x256_S2x1x256x256
abbrev cBuf (r : Fin 2) (n : Fin 4) : Memref sig .tc .vmem S1x1x256x256 .f32 :=
  ((Memref.whole cc0_scratch1).slice (Rect.unit (s := S2x4x1x256x256) ![r.val, n.val, 0, 0, 0] S1x1x1x256x256.size (off_inb (slot_le r) (row_le n))) (fun _ => rfl)).squeeze
    S1x1x256x256 squeezes_S1x1x1x256x256_S1x1x256x256
abbrev oBuf (r : Fin 2) (n : Fin 4) : Memref sig .tc .vmem S2x1x256x256 .f32 :=
  ((Memref.whole cc0_scratch2).slice (Rect.unit (s := S2x8x1x256x256) ![r.val, 2 * n.val, 0, 0, 0] S1x2x1x256x256.size (off_inb (slot_le r) (pair_le n))) (fun _ => rfl)).squeeze
    S2x1x256x256 squeezes_S1x2x1x256x256_S2x1x256x256
/-- The semaphores of pair `n` in slot `r`: the node copy's, the change copy's, the result copy's. -/
abbrev pSem (r : Fin 2) (n : Fin 4) : DmaSems sig S_ :=
  (cc0_scratch3.slice (Rect.unit (s := S2x4) ![r.val, n.val] S1x1.size (sem_inb (slot_le r) (row_le n)))).squeeze S_ squeezes_S1x1_S_
abbrev cSem (r : Fin 2) (n : Fin 4) : DmaSems sig S_ :=
  (cc0_scratch4.slice (Rect.unit (s := S2x4) ![r.val, n.val] S1x1.size (sem_inb (slot_le r) (row_le n)))).squeeze S_ squeezes_S1x1_S_
abbrev oSem (r : Fin 2) (n : Fin 4) : DmaSems sig S_ :=
  (cc0_scratch5.slice (Rect.unit (s := S2x4) ![r.val, n.val] S1x1.size (sem_inb (slot_le r) (row_le n)))).squeeze S_ squeezes_S1x1_S_

/-- The boxes loaded and stored: node `2n`, node `2n+1`, change row `n`, in slot `r`. -/
abbrev rA (r : Fin 2) (n : Fin 4) : Rect S2x8x1x256x256 :=
  Rect.unit (s := S2x8x1x256x256) ![r.val, 2 * n.val, 0, 0, 0] S1x1x1x256x256.size (off_inb (slot_le r) (fst_le n))
abbrev rB (r : Fin 2) (n : Fin 4) : Rect S2x8x1x256x256 :=
  Rect.unit (s := S2x8x1x256x256) ![r.val, 2 * n.val + 1, 0, 0, 0] S1x1x1x256x256.size (off_inb (slot_le r) (snd_le n))
abbrev rC (r : Fin 2) (n : Fin 4) : Rect S2x4x1x256x256 :=
  Rect.unit (s := S2x4x1x256x256) ![r.val, n.val, 0, 0, 0] S1x1x1x256x256.size (off_inb (slot_le r) (row_le n))

/-! ## What a pair's step computes -/

/-- The clipped probability of a loaded block. -/
def clip (v : Vec F S1x1x1x256x256 .f32) : FVec F S256x256 .f32 :=
  minimumf (broadcast S256x256 (Scalar.ofBits .f32 0x3F7FFFEF#32 : F .f32))
    (maximumf (broadcast S256x256 (Scalar.ofBits .f32 0x358637BD#32 : F .f32)) (shapeCast S256x256 v shapeCasts_S1x1x1x256x256_S256x256))
/-- A logarithm, rounded to a shorter format and back. -/
def logr (v : FVec F S256x256 .f32) : FVec F S256x256 .f32 := extf .f32 (truncf .bf16 (log v) bitsLt_bf16_f32) bitsLt_bf16_f32
/-- The log odds of a loaded block. -/
def logit (v : Vec F S1x1x1x256x256 .f32) : FVec F S256x256 .f32 :=
  subf (logr (clip v)) (logr (subf (broadcast S256x256 (Scalar.ofBits .f32 0x3F800000#32 : F .f32)) (clip v)))

abbrev zero : FVec F S256x256 .f32 := broadcast S256x256 (Scalar.ofBits .f32 0x00000000#32 : F .f32)
abbrev one : FVec F S256x256 .f32 := broadcast S256x256 (Scalar.ofBits .f32 0x3F800000#32 : F .f32)

section Pair
variable (va vb vc : Vec F S1x1x1x256x256 .f32)
/-- The scores of the pair's states (1,0), (0,1), (1,1) relative to (0,0). -/
def s10 : FVec F S256x256 .f32 := addf (logit va) (logit vc)
def s01 : FVec F S256x256 .f32 := addf (logit vb) (logit vc)
def s11 : FVec F S256x256 .f32 := addf (logit va) (logit vb)
/-- Where the second node's state is 1. -/
def mb : IVec S256x256 1 := cmpf .ogt (maximumf (s01 vb vc) (s11 va vb)) (maximumf (s10 va vc) zero)
/-- The blocks stored: the first node's states, the second's. -/
def outA : FVec F S1x1x1x256x256 .f32 :=
  shapeCast S1x1x1x256x256
    (select (mb va vb vc) (select (cmpf .ogt (s11 va vb) (s01 vb vc)) one zero) (select (cmpf .ogt (s10 va vc) zero) one zero))
    shapeCasts_S256x256_S1x1x1x256x256
def outB : FVec F S1x1x1x256x256 .f32 :=
  shapeCast S1x1x1x256x256 (select (mb va vb vc) one zero) shapeCasts_S256x256_S1x1x1x256x256
end Pair

/-! ## The steps -/

/-- A program of the kernel's body. -/
abbrev P (F : FTy → Type) [FloatOps F] : Type 1 := Prog (TpuEff nD τ sig (Elt F) Λ₀ .tc) PUnit

def startP (s n : Fin 4) : P F :=
  Prog.lift (.enqueueDma (pSrc s n) (.here (pBuf (sl s) n)) (.dma (pSem (sl s) n).sem) ((View.wordExact_bits rfl).reshape _ _) ((View.wordExact_bits rfl).reshape _ _) ⟨Or.inl rfl, trivial⟩)
def startC (s n : Fin 4) : P F :=
  Prog.lift (.enqueueDma (cSrc s n) (.here (cBuf (sl s) n)) (.dma (cSem (sl s) n).sem) ((View.wordExact_bits rfl).reshape _ _) ((View.wordExact_bits rfl).reshape _ _) ⟨Or.inl rfl, trivial⟩)
def startO (s n : Fin 4) : P F :=
  Prog.lift (.enqueueDma (oBuf (sl s) n) (.here (oDst s n)) (.dma (oSem (sl s) n).sem) ((View.wordExact_bits rfl).reshape _ _) ((View.wordExact_bits rfl).reshape _ _) ⟨Or.inl rfl, trivial⟩)
def waitP (s n : Fin 4) : P F :=
  Prog.lift (.waitDma2 (pSem (sl s) n).sem (pSrc s n) (pBuf (sl s) n) ((View.wordExact_bits rfl).reshape _ _) ((View.wordExact_bits rfl).reshape _ _))
def waitC (s n : Fin 4) : P F :=
  Prog.lift (.waitDma2 (cSem (sl s) n).sem (cSrc s n) (cBuf (sl s) n) ((View.wordExact_bits rfl).reshape _ _) ((View.wordExact_bits rfl).reshape _ _))
def waitO (s n : Fin 4) : P F :=
  Prog.lift (.waitDma2 (oSem (sl s) n).sem (oBuf (sl s) n) (oDst s n) ((View.wordExact_bits rfl).reshape _ _) ((View.wordExact_bits rfl).reshape _ _))

/-- Load the pair's three blocks, store its two results (each store preceded by a load nothing reads). -/
def compute (s n : Fin 4) : P F := do
  let va ← Prog.lift (.load (Memref.whole cc0_scratch0) (rA (sl s) n).toLoadRect (View.loadsAt_vmem h_S1x1x1x256x256))
  let vb ← Prog.lift (.load (Memref.whole cc0_scratch0) (rB (sl s) n).toLoadRect (View.loadsAt_vmem h_S1x1x1x256x256))
  let vc ← Prog.lift (.load (Memref.whole cc0_scratch1) (rC (sl s) n).toLoadRect (View.loadsAt_vmem h_S1x1x1x256x256))
  let _ ← Prog.lift (.load (Memref.whole cc0_scratch2) (rA (sl s) n).toLoadRect (View.loadsAt_vmem h_S1x1x1x256x256))
  Prog.lift (.store (Memref.whole cc0_scratch2) (rA (sl s) n) (outA va vb vc) Finset.univ (View.stores_vmem_bits_univ h_S1x1x1x256x256 rfl) (.inl rfl))
  let _ ← Prog.lift (.load (Memref.whole cc0_scratch2) (rB (sl s) n).toLoadRect (View.loadsAt_vmem h_S1x1x1x256x256))
  Prog.lift (.store (Memref.whole cc0_scratch2) (rB (sl s) n) (outB va vb vc) Finset.univ (View.stores_vmem_bits_univ h_S1x1x1x256x256 rfl) (.inl rfl))

/-- The steps of pair `n` at the body's four phases: the two batch rows copied in ahead; -/
def ahead (s n : Fin 4) : List (P F) := [startP s n, startC s n]
/-- batch rows 0 and 1, each starting the copy of the row two later; -/
def early (s n : Fin 4) : List (P F) := [waitP s n, waitC s n, compute s n, startO s n, startP (s + 2) n, startC (s + 2) n]
/-- batch rows 2 and 3, each first waiting for the result of the row two earlier. -/
def late (s n : Fin 4) : List (P F) := [waitP s n, waitC s n, waitO (s - 2) n, compute s n, startO s n]

/-- The body's steps, in order. -/
def steps : List (P F) :=
  ahead 0 0 ++ ahead 0 1 ++ ahead 0 2 ++ ahead 0 3 ++ ahead 1 0 ++ ahead 1 1 ++ ahead 1 2 ++ ahead 1 3
  ++ early 0 0 ++ early 0 1 ++ early 0 2 ++ early 0 3 ++ early 1 0 ++ early 1 1 ++ early 1 2 ++ early 1 3
  ++ late 2 0 ++ late 2 1 ++ late 2 2 ++ late 2 3 ++ late 3 0 ++ late 3 1 ++ late 3 2 ++ late 3 3
  ++ [waitO 2 0, waitO 2 1, waitO 2 2, waitO 2 3, waitO 3 0, waitO 3 1, waitO 3 2, waitO 3 3]

/-- The printed body is its steps in order. -/
theorem body_eq (t : Fin cfg0.N) : bodyAt0 (F := F) t = Pipeline.chain steps := by
  sl_kernel_rfl

end Cert.Proof.Body

end
-- ==== Proof.Contents.lean ====
/-
  What the body's copies, loads and stores leave, read element by element: the loads of a pair's step read the blocks
  of the arguments that the step's batch row and pair name, and the copy out leaves the result those blocks give.
-/
module

public import proofs.«01_k».proof.Proof.Body

@[expose] public section

set_option maxRecDepth 16384

noncomputable section

namespace Cert.Proof.Body

open Cert.Kernel Cert.Kernel.Gen
open Idealize.ShloMosaic Idealize.ShloMosaic.TcCoe
open Idealize.SL Idealize.SL.Sem

variable {F : FTy → Type} [FloatOps F]

/-! ## Indices of rank five -/

/-- The index of row `a`, node `b`, pixel `(h, w)`. -/
def i5 {A B : ℕ} (a : Fin A) (b : Fin B) (h w : Fin 256) : (⟨5, ![A, B, 1, 256, 256]⟩ : Shape).Idx := fun i =>
  match i with
  | ⟨0, _⟩ => a
  | ⟨1, _⟩ => b
  | ⟨2, _⟩ => (0 : Fin 1)
  | ⟨3, _⟩ => h
  | ⟨4, _⟩ => w

/-- Two such indices are equal when their four coordinates of extent above one are. -/
theorem i5_ext {A B : ℕ} {x y : (⟨5, ![A, B, 1, 256, 256]⟩ : Shape).Idx} (h0 : (x 0).val = (y 0).val) (h1 : (x 1).val = (y 1).val)
    (h3 : (x 3).val = (y 3).val) (h4 : (x 4).val = (y 4).val) : x = y :=
  funext fun a => by
    match a with
    | ⟨0, _⟩ => exact Fin.ext h0
    | ⟨1, _⟩ => exact Fin.ext h1
    | ⟨2, _⟩ => exact Subsingleton.elim (α := Fin 1) _ _
    | ⟨3, _⟩ => exact Fin.ext h3
    | ⟨4, _⟩ => exact Fin.ext h4

theorem nodeA_lt (n : Fin 4) : 2 * n.val < 8 := by have := n.isLt; omega
theorem nodeB_lt (n : Fin 4) : 2 * n.val + 1 < 8 := by have := n.isLt; omega
/-- The first and the second node of pair `n`. -/
abbrev nodeA (n : Fin 4) : Fin 8 := ⟨2 * n.val, nodeA_lt n⟩
abbrev nodeB (n : Fin 4) : Fin 8 := ⟨2 * n.val + 1, nodeB_lt n⟩

/-! ## The blocks -/

/-- Node `t` of batch row `s` as a block. -/
def nodeBlk (X : Vec F S4x8x1x256x256 .f32) (s : Fin 4) (t : Fin 8) : Vec F S1x1x1x256x256 .f32 := fun j => X (i5 s t (j 3) (j 4))
/-- Change row `n` of batch row `s` as a block. -/
def chBlk (Y : Vec F S4x4x1x256x256 .f32) (s n : Fin 4) : Vec F S1x1x1x256x256 .f32 := fun j => Y (i5 s n (j 3) (j 4))

/-- What pair `n` of batch row `s` leaves: its two nodes' states. -/
def resA (X : Vec F S4x8x1x256x256 .f32) (Y : Vec F S4x4x1x256x256 .f32) (s n : Fin 4) : Vec F S1x1x1x256x256 .f32 :=
  outA (nodeBlk X s (nodeA n)) (nodeBlk X s (nodeB n)) (chBlk Y s n)
def resB (X : Vec F S4x8x1x256x256 .f32) (Y : Vec F S4x4x1x256x256 .f32) (s n : Fin 4) : Vec F S1x1x1x256x256 .f32 :=
  outB (nodeBlk X s (nodeA n)) (nodeBlk X s (nodeB n)) (chBlk Y s n)

theorem pairOf_lt (b : Fin 8) : b.val / 2 < 4 := by have := b.isLt; omega
/-- The pair of a node. -/
abbrev pairOf (b : Fin 8) : Fin 4 := ⟨b.val / 2, pairOf_lt b⟩

/-- The kernel's result from its two arguments: each node's states from its pair's blocks. -/
def result (X : Vec F S4x8x1x256x256 .f32) (Y : Vec F S4x4x1x256x256 .f32) : Vec F S4x8x1x256x256 .f32 := fun i =>
  if (i 1).val % 2 = 0 then resA X Y (i 0) (pairOf (i 1)) (i5 0 0 (i 3) (i 4)) else resB X Y (i 0) (pairOf (i 1)) (i5 0 0 (i 3) (i 4))

/-! ## The boxes of two rows -/

abbrev r2 (r : Fin 2) (n : Fin 4) : Rect S2x8x1x256x256 :=
  Rect.unit (s := S2x8x1x256x256) ![r.val, 2 * n.val, 0, 0, 0] S1x2x1x256x256.size (off_inb (slot_le r) (pair_le n))
abbrev g2 (s n : Fin 4) : Rect S4x8x1x256x256 :=
  Rect.unit (s := S4x8x1x256x256) ![s.val, 2 * n.val, 0, 0, 0] S1x2x1x256x256.size (off_inb (row_le s) (pair_le n))
abbrev g1 (s n : Fin 4) : Rect S4x4x1x256x256 :=
  Rect.unit (s := S4x4x1x256x256) ![s.val, n.val, 0, 0, 0] S1x1x1x256x256.size (off_inb (row_le s) (row_le n))

theorem numel2 : S2x1x256x256.numel = S1x2x1x256x256.numel := squeezes_S1x2x1x256x256_S2x1x256x256.numel_eq
theorem numel1 : S1x1x256x256.numel = S1x1x1x256x256.numel := squeezes_S1x1x1x256x256_S1x1x256x256.numel_eq

/-- The node copy leaves in slot `r` what it reads, place by place. -/
theorem copyP_at (r : Fin 2) (s n : Fin 4) (X : Vec F S4x8x1x256x256 .f32) (f : Vec F S2x8x1x256x256 .f32) (y : S1x2x1x256x256.Idx) :
    (pBuf r n).view.write (Elt F) f ((pSrc s n).view.read (Elt F) X) Finset.univ ((r2 r n).emb y) = X ((g2 s n).emb y) := by
  have e : y = Shape.reshapeEquiv numel2 ((Shape.reshapeEquiv numel2).symm y) := (Equiv.apply_symm_apply _ _).symm
  rw [e]
  exact (View.write_emb_of_mem (v := (pBuf r n).view) (Val := Elt F) f _ (Finset.mem_univ ((Shape.reshapeEquiv numel2).symm y))).trans rfl

/-- The change copy likewise. -/
theorem copyC_at (r : Fin 2) (s n : Fin 4) (Y : Vec F S4x4x1x256x256 .f32) (f : Vec F S2x4x1x256x256 .f32) (y : S1x1x1x256x256.Idx) :
    (cBuf r n).view.write (Elt F) f ((cSrc s n).view.read (Elt F) Y) Finset.univ ((rC r n).emb y) = Y ((g1 s n).emb y) := by
  have e : y = Shape.reshapeEquiv numel1 ((Shape.reshapeEquiv numel1).symm y) := (Equiv.apply_symm_apply _ _).symm
  rw [e]
  exact (View.write_emb_of_mem (v := (cBuf r n).view) (Val := Elt F) f _ (Finset.mem_univ ((Shape.reshapeEquiv numel1).symm y))).trans rfl

/-- The copy out likewise. -/
theorem copyO_at (r : Fin 2) (s n : Fin 4) (Z : Vec F S2x8x1x256x256 .f32) (f : Vec F S4x8x1x256x256 .f32) (y : S1x2x1x256x256.Idx) :
    (oDst s n).view.write (Elt F) f ((oBuf r n).view.read (Elt F) Z) Finset.univ ((g2 s n).emb y) = Z ((r2 r n).emb y) := by
  have e : y = Shape.reshapeEquiv numel2 ((Shape.reshapeEquiv numel2).symm y) := (Equiv.apply_symm_apply _ _).symm
  rw [e]
  exact (View.write_emb_of_mem (v := (oDst s n).view) (Val := Elt F) f _ (Finset.mem_univ ((Shape.reshapeEquiv numel2).symm y))).trans rfl

/-! ## The loads -/

/-- The first node's load reads the first node's block; -/
theorem loadA (r : Fin 2) (s n : Fin 4) (X : Vec F S4x8x1x256x256 .f32) (f : Vec F S2x8x1x256x256 .f32) :
    (Memref.whole cc0_scratch0).view.readAt (Elt F) (rA r n).toLoadRect ((pBuf r n).view.write (Elt F) f ((pSrc s n).view.read (Elt F) X) Finset.univ)
      = nodeBlk X s (nodeA n) := by
  funext j
  have e : (rA r n).emb j = (r2 r n).emb (i5 0 0 (j 3) (j 4)) := by
    have h0 : (j 0).val = 0 := by have : (j 0).val < 1 := (j 0).isLt; omega
    have h1 : (j 1).val = 0 := by have : (j 1).val < 1 := (j 1).isLt; omega
    apply i5_ext
    · show r.val + 1 * (j 0).val = r.val + 1 * 0; rw [h0]
    · show 2 * n.val + 1 * (j 1).val = 2 * n.val + 1 * 0; rw [h1]
    · rfl
    · rfl
  have h := copyP_at r s n X f (i5 0 0 (j 3) (j 4))
  rw [← e] at h
  refine Eq.trans h ?_
  refine congrArg X (i5_ext ?_ ?_ ?_ ?_)
  · show s.val + 1 * 0 = s.val; omega
  · show 2 * n.val + 1 * 0 = 2 * n.val; omega
  · show 0 + 1 * (j 3).val = (j 3).val; omega
  · show 0 + 1 * (j 4).val = (j 4).val; omega

/-- the second node's its block; -/
theorem loadB (r : Fin 2) (s n : Fin 4) (X : Vec F S4x8x1x256x256 .f32) (f : Vec F S2x8x1x256x256 .f32) :
    (Memref.whole cc0_scratch0).view.readAt (Elt F) (rB r n).toLoadRect ((pBuf r n).view.write (Elt F) f ((pSrc s n).view.read (Elt F) X) Finset.univ)
      = nodeBlk X s (nodeB n) := by
  funext j
  have e : (rB r n).emb j = (r2 r n).emb (i5 0 1 (j 3) (j 4)) := by
    have h0 : (j 0).val = 0 := by have : (j 0).val < 1 := (j 0).isLt; omega
    have h1 : (j 1).val = 0 := by have : (j 1).val < 1 := (j 1).isLt; omega
    apply i5_ext
    · show r.val + 1 * (j 0).val = r.val + 1 * 0; rw [h0]
    · show 2 * n.val + 1 + 1 * (j 1).val = 2 * n.val + 1 * 1; rw [h1]
    · rfl
    · rfl
  have h := copyP_at r s n X f (i5 0 1 (j 3) (j 4))
  rw [← e] at h
  refine Eq.trans h ?_
  refine congrArg X (i5_ext ?_ ?_ ?_ ?_)
  · show s.val + 1 * 0 = s.val; omega
  · show 2 * n.val + 1 * 1 = 2 * n.val + 1; omega
  · show 0 + 1 * (j 3).val = (j 3).val; omega
  · show 0 + 1 * (j 4).val = (j 4).val; omega

/-- the change row's its block. -/
theorem loadC (r : Fin 2) (s n : Fin 4) (Y : Vec F S4x4x1x256x256 .f32) (f : Vec F S2x4x1x256x256 .f32) :
    (Memref.whole cc0_scratch1).view.readAt (Elt F) (rC r n).toLoadRect ((cBuf r n).view.write (Elt F) f ((cSrc s n).view.read (Elt F) Y) Finset.univ)
      = chBlk Y s n := by
  funext j
  refine Eq.trans (copyC_at r s n Y f j) ?_
  have h0 : (j 0).val = 0 := by have : (j 0).val < 1 := (j 0).isLt; omega
  have h1 : (j 1).val = 0 := by have : (j 1).val < 1 := (j 1).isLt; omega
  refine congrArg Y (i5_ext ?_ ?_ ?_ ?_)
  · show s.val + 1 * (j 0).val = s.val; omega
  · show n.val + 1 * (j 1).val = n.val; omega
  · show 0 + 1 * (j 3).val = (j 3).val; omega
  · show 0 + 1 * (j 4).val = (j 4).val; omega

/-! ## The stores and the copy out -/

/-- The result buffer after a pair's two stores. -/
abbrev stored (r : Fin 2) (n : Fin 4) (f : Vec F S2x8x1x256x256 .f32) (a b : Vec F S1x1x1x256x256 .f32) : Vec F S2x8x1x256x256 .f32 :=
  ((Memref.whole cc0_scratch2).access (rB r n)).write (Elt F) (((Memref.whole cc0_scratch2).access (rA r n)).write (Elt F) f a Finset.univ) b Finset.univ

/-- It holds the second block at the second node's row, -/
theorem stored_B (r : Fin 2) (n : Fin 4) (f : Vec F S2x8x1x256x256 .f32) (a b : Vec F S1x1x1x256x256 .f32) (j : S1x1x1x256x256.Idx) :
    stored r n f a b ((rB r n).emb j) = b j :=
  (View.write_emb_of_mem (v := (Memref.whole cc0_scratch2).access (rB r n)) (Val := Elt F) _ b (Finset.mem_univ j)).trans rfl

/-- the first at the first's. -/
theorem stored_A (r : Fin 2) (n : Fin 4) (f : Vec F S2x8x1x256x256 .f32) (a b : Vec F S1x1x1x256x256 .f32) (j : S1x1x1x256x256.Idx) :
    stored r n f a b ((rA r n).emb j) = a j := by
  refine Eq.trans (View.write_of_not_mem (v := (Memref.whole cc0_scratch2).access (rB r n)) (Val := Elt F) _ b Finset.univ ?_) ?_
  · intro hm
    obtain ⟨k, -, hk⟩ := Finset.mem_map.mp hm
    have h : 2 * n.val + 1 + 1 * (k 1).val = 2 * n.val + 1 * (j 1).val := congrArg (fun i : S2x8x1x256x256.Idx => (i 1).val) hk
    have h1 : (j 1).val < 1 := (j 1).isLt
    omega
  · exact (View.write_emb_of_mem (v := (Memref.whole cc0_scratch2).access (rA r n)) (Val := Elt F) f a (Finset.mem_univ j)).trans rfl

/-- After the copy out, the pair's rows of the result hold `result`. -/
theorem copied_out (r : Fin 2) (s n : Fin 4) (X : Vec F S4x8x1x256x256 .f32) (Y : Vec F S4x4x1x256x256 .f32)
    (fo : Vec F S4x8x1x256x256 .f32) (f : Vec F S2x8x1x256x256 .f32) (i : S4x8x1x256x256.Idx) (hi : i ∈ (g2 s n).set) :
    (oDst s n).view.write (Elt F) fo ((oBuf r n).view.read (Elt F) (stored r n f (resA X Y s n) (resB X Y s n))) Finset.univ i = result X Y i := by
  rw [← Rect.map_emb_univ] at hi
  obtain ⟨y, -, rfl⟩ := Finset.mem_map.mp hi
  rw [copyO_at r s n]
  have y0 : (y 0).val = 0 := by have : (y 0).val < 1 := (y 0).isLt; omega
  have y1 : (y 1).val < 2 := (y 1).isLt
  have e0 : ((g2 s n).emb y) 0 = s := Fin.ext (by show s.val + 1 * (y 0).val = s.val; omega)
  have e1 : (((g2 s n).emb y) 1).val = 2 * n.val + (y 1).val := by show 2 * n.val + 1 * (y 1).val = _; omega
  have e3 : ((g2 s n).emb y) 3 = y 3 := Fin.ext (by show 0 + 1 * (y 3).val = (y 3).val; omega)
  have e4 : ((g2 s n).emb y) 4 = y 4 := Fin.ext (by show 0 + 1 * (y 4).val = (y 4).val; omega)
  have ep : pairOf (((g2 s n).emb y) 1) = n := Fin.ext (by show (((g2 s n).emb y) 1).val / 2 = n.val; rw [e1]; omega)
  unfold result
  rw [ep, e0, e3, e4, e1]
  by_cases h : (y 1).val = 0
  · rw [if_pos (by rw [h]; omega)]
    rw [← stored_A r n f (resA X Y s n) (resB X Y s n) (i5 0 0 (y 3) (y 4))]
    refine congrArg _ (i5_ext ?_ ?_ rfl rfl)
    · show r.val + 1 * (y 0).val = r.val + 1 * 0; rw [y0]
    · show 2 * n.val + 1 * (y 1).val = 2 * n.val + 1 * 0; rw [h]
  · have h' : (y 1).val = 1 := by omega
    rw [if_neg (by rw [h']; omega)]
    rw [← stored_B r n f (resA X Y s n) (resB X Y s n) (i5 0 0 (y 3) (y 4))]
    refine congrArg _ (i5_ext ?_ ?_ rfl rfl)
    · show r.val + 1 * (y 0).val = r.val + 1 * 0; rw [y0]
    · show 2 * n.val + 1 * (y 1).val = 2 * n.val + 1 + 1 * 0; rw [h']

end Cert.Proof.Body

end
-- ==== Proof.Steps.lean ====
/-
  The body's run: each step's triple, at a symbolic batch row and pair, and their composition. The eight (slot, pair)
  lanes are independent: a lane runs through five phases — at rest; its first row's copies in flight; its second
  row's and the first row's result; the second row's result; at rest with the results written — and the body advances
  the lanes one phase at a time.
-/
module

public import proofs.«01_k».proof.Proof.Contents
public import Idealize.ShloMosaic.Lib.Pipeline.KitQuiescent
public import Idealize.ShloMosaic.Lib.Pipeline.BigSepL
public import Idealize.ShloMosaic.Lib.Ring
public import Idealize.ShloMosaic.Lib.Tactic

@[expose] public section

set_option maxRecDepth 16384

noncomputable section

namespace Cert.Proof.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (chain)

variable {F : FTy → Type} [FloatOps F]

/-! ## The resource algebra: the pipeline library's, beside the counters the body's own transfers ride on -/

abbrev UU (nD : Nat) (τ : Topo) : Type := UR sig nD τ × Counters
local notation "𝕄" => MT nD τ sig Unit (Elt F) ℕ (UU nD τ) ℕ
abbrev 𝒱₀ : Variants := Variants.none

section
variable (c : Dev nD) (X : Vec F S4x8x1x256x256 .f32) (Y : Vec F S4x4x1x256x256 .f32)

/-! ## The pieces -/

/-- The two node rows of pair `n` of batch row `s`; the change row. -/
abbrev xR (s n : Fin 4) : sProp 𝕄 := (pSrc s n).view.loc (c : Thread nD τ) ↦[(pSrc s n).view.set]{fullShare} X
abbrev yR (s n : Fin 4) : sProp 𝕄 := (cSrc s n).view.loc (c : Thread nD τ) ↦[(cSrc s n).view.set]{fullShare} Y
/-- The result's two rows at contents `f`. -/
abbrev zR (s n : Fin 4) (f : Vec F S4x8x1x256x256 .f32) : sProp 𝕄 := (oDst s n).view.loc (c : Thread nD τ) ↦[(oDst s n).view.set]{fullShare} f
/-- The slots at given contents. -/
abbrev pB (r : Fin 2) (n : Fin 4) (f : Vec F S2x8x1x256x256 .f32) : sProp 𝕄 := (pBuf r n).view.loc (c : Thread nD τ) ↦[(pBuf r n).view.set]{fullShare} f
abbrev cB (r : Fin 2) (n : Fin 4) (f : Vec F S2x4x1x256x256 .f32) : sProp 𝕄 := (cBuf r n).view.loc (c : Thread nD τ) ↦[(cBuf r n).view.set]{fullShare} f
abbrev oB (r : Fin 2) (n : Fin 4) (f : Vec F S2x8x1x256x256 .f32) : sProp 𝕄 := (oBuf r n).view.loc (c : Thread nD τ) ↦[(oBuf r n).view.set]{fullShare} f
/-- The semaphores at zero. -/
abbrev pV (r : Fin 2) (n : Fin 4) : sProp 𝕄 := semVal ((c : Thread nD τ), SemLoc.dma (pSem r n).sem) 0
abbrev cV (r : Fin 2) (n : Fin 4) : sProp 𝕄 := semVal ((c : Thread nD τ), SemLoc.dma (cSem r n).sem) 0
abbrev oV (r : Fin 2) (n : Fin 4) : sProp 𝕄 := semVal ((c : Thread nD τ), SemLoc.dma (oSem r n).sem) 0

/-- What the node copy leaves in its slot, and the change copy in its. -/
abbrev pGot (r : Fin 2) (s n : Fin 4) (f : Vec F S2x8x1x256x256 .f32) : Vec F S2x8x1x256x256 .f32 :=
  (pBuf r n).view.write (Elt F) f ((pSrc s n).view.read (Elt F) X) Finset.univ
abbrev cGot (r : Fin 2) (s n : Fin 4) (f : Vec F S2x4x1x256x256 .f32) : Vec F S2x4x1x256x256 .f32 :=
  (cBuf r n).view.write (Elt F) f ((cSrc s n).view.read (Elt F) Y) Finset.univ
/-- What the pair's stores leave in the result slot, and the copy out of it in the result. -/
abbrev oGot (r : Fin 2) (s n : Fin 4) (f : Vec F S2x8x1x256x256 .f32) : Vec F S2x8x1x256x256 .f32 :=
  stored r n f (resA X Y s n) (resB X Y s n)

/-- The copies in flight. -/
abbrev pF (r : Fin 2) (s n : Fin 4) : sProp 𝕄 :=
  iprop(∃ f, Transfers.Flight countersEmb (c : Thread nD τ) (SemLoc.dma (pSem r n).sem) () 16384 iprop(pB c r n (pGot X r s n f) ∗ xR c X s n))
abbrev cF (r : Fin 2) (s n : Fin 4) : sProp 𝕄 :=
  iprop(∃ f, Transfers.Flight countersEmb (c : Thread nD τ) (SemLoc.dma (cSem r n).sem) () 8192 iprop(cB c r n (cGot Y r s n f) ∗ yR c Y s n))
abbrev oF (r : Fin 2) (s n : Fin 4) : sProp 𝕄 :=
  iprop(∃ fo f, Transfers.Flight countersEmb (c : Thread nD τ) (SemLoc.dma (oSem r n).sem) () 16384
    iprop(zR c s n ((oDst s n).view.write (Elt F) fo ((oBuf r n).view.read (Elt F) (oGot X Y r s n f)) Finset.univ) ∗ oB c r n (oGot X Y r s n f)))

/-- The core's waits so far. -/
abbrev ow : sProp 𝕄 := iprop(∃ W, owes (c : Thread nD τ) 0 W)

/-- The body's continuation: the chain of the steps left. -/
abbrev go (qs : List (P F)) (Q : PUnit.{1} → sProp 𝕄) : sProp 𝕄 :=
  wp frame (wpE (defs₀ (F := F)) 𝒱₀ (c : Thread nD τ) none) Set.univ (chain qs) Q

variable (qs : List (P F))

/-! ## The steps -/

theorem startP_ok (Q : PUnit → sProp 𝕄) {r : Fin 2} {s n : Fin 4} (h : sl s = r) (f : Vec F S2x8x1x256x256 .f32) :
    iprop(pB c r n f ∗ pV c r n ∗ xR c X s n) ⊢ iprop((pF c X r s n -∗ go c qs Q) -∗ go c (startP s n :: qs) Q) := by
  subst h
  iintro ⟨Hb, Hv, Hx⟩ Hk
  iapply (Transfers.wp_dmaLocal countersEmb 𝒱₀ (c : Thread nD τ) none () 16384 (by rfl) (by decide) (Finset.Subset.refl _)) $$ [Hb Hv Hx]
  · isplitl [Hx]; · iexact Hx
    isplitl [Hb]; · iexact Hb
    iexact Hv
  iintro HF
  iapply Hk
  iexists f
  iexact HF

theorem startC_ok (Q : PUnit → sProp 𝕄) {r : Fin 2} {s n : Fin 4} (h : sl s = r) (f : Vec F S2x4x1x256x256 .f32) :
    iprop(cB c r n f ∗ cV c r n ∗ yR c Y s n) ⊢ iprop((cF c Y r s n -∗ go c qs Q) -∗ go c (startC s n :: qs) Q) := by
  subst h
  iintro ⟨Hb, Hv, Hx⟩ Hk
  iapply (Transfers.wp_dmaLocal countersEmb 𝒱₀ (c : Thread nD τ) none () 8192 (by rfl) (by decide) (Finset.Subset.refl _)) $$ [Hb Hv Hx]
  · isplitl [Hx]; · iexact Hx
    isplitl [Hb]; · iexact Hb
    iexact Hv
  iintro HF
  iapply Hk
  iexists f
  iexact HF

theorem startO_ok (Q : PUnit → sProp 𝕄) {r : Fin 2} {s n : Fin 4} (h : sl s = r) (fo : Vec F S4x8x1x256x256 .f32) (f : Vec F S2x8x1x256x256 .f32) :
    iprop(oB c r n (oGot X Y r s n f) ∗ oV c r n ∗ zR c s n fo) ⊢ iprop((oF c X Y r s n -∗ go c qs Q) -∗ go c (startO s n :: qs) Q) := by
  subst h
  iintro ⟨Hb, Hv, Hz⟩ Hk
  iapply (Transfers.wp_dmaLocal countersEmb 𝒱₀ (c : Thread nD τ) none () 16384 (by rfl) (by decide) (Finset.Subset.refl _)) $$ [Hb Hv Hz]
  · isplitl [Hb]; · iexact Hb
    isplitl [Hz]; · iexact Hz
    iexact Hv
  iintro HF
  iapply Hk
  iexists fo, f
  iexact HF

theorem waitP_ok (Q : PUnit → sProp 𝕄) {r : Fin 2} {s n : Fin 4} (h : sl s = r) :
    iprop(pF c X r s n ∗ ow c)
      ⊢ iprop((iprop((∃ f, pB c r n (pGot X r s n f)) ∗ xR c X s n ∗ pV c r n ∗ ow c) -∗ go c qs Q) -∗ go c (waitP s n :: qs) Q) := by
  subst h
  iintro ⟨⟨%f, HF⟩, %W, HO⟩ Hk
  iapply (Transfers.wp_waitLocal countersEmb 𝒱₀ (c : Thread nD τ) none () (N := 16384) (by rfl)) $$ [HF HO]
  · isplitl [HF]; · iexact HF
    iexact HO
  iintro ⟨⟨Hb, Hx⟩, Hv, HO⟩
  iapply Hk
  isplitl [Hb]; · iexists f; iexact Hb
  isplitl [Hx]; · iexact Hx
  isplitl [Hv]; · iexact Hv
  iexists _; iexact HO

theorem waitC_ok (Q : PUnit → sProp 𝕄) {r : Fin 2} {s n : Fin 4} (h : sl s = r) :
    iprop(cF c Y r s n ∗ ow c)
      ⊢ iprop((iprop((∃ f, cB c r n (cGot Y r s n f)) ∗ yR c Y s n ∗ cV c r n ∗ ow c) -∗ go c qs Q) -∗ go c (waitC s n :: qs) Q) := by
  subst h
  iintro ⟨⟨%f, HF⟩, %W, HO⟩ Hk
  iapply (Transfers.wp_waitLocal countersEmb 𝒱₀ (c : Thread nD τ) none () (N := 8192) (by rfl)) $$ [HF HO]
  · isplitl [HF]; · iexact HF
    iexact HO
  iintro ⟨⟨Hb, Hx⟩, Hv, HO⟩
  iapply Hk
  isplitl [Hb]; · iexists f; iexact Hb
  isplitl [Hx]; · iexact Hx
  isplitl [Hv]; · iexact Hv
  iexists _; iexact HO

/-- The result's rows after their copy are `result`'s. -/
theorem zR_result (r : Fin 2) (s n : Fin 4) (fo : Vec F S4x8x1x256x256 .f32) (f : Vec F S2x8x1x256x256 .f32) :
    (zR c s n ((oDst s n).view.write (Elt F) fo ((oBuf r n).view.read (Elt F) (oGot X Y r s n f)) Finset.univ) : sProp 𝕄) = zR c s n (result X Y) := by
  refine pointsTo_congr fun i hi => ?_
  refine copied_out r s n X Y fo f i ?_
  have e : (oDst s n).view.set = (g2 s n).set := (View.set_reshape _ _).trans (View.set_slice_whole _ _)
  exact e ▸ hi

theorem waitO_ok (Q : PUnit → sProp 𝕄) {r : Fin 2} {s n : Fin 4} (h : sl s = r) :
    iprop(oF c X Y r s n ∗ ow c)
      ⊢ iprop((iprop((∃ f, oB c r n f) ∗ zR c s n (result X Y) ∗ oV c r n ∗ ow c) -∗ go c qs Q) -∗ go c (waitO s n :: qs) Q) := by
  subst h
  iintro ⟨⟨%fo, %f, HF⟩, %W, HO⟩ Hk
  iapply (Transfers.wp_waitLocal countersEmb 𝒱₀ (c : Thread nD τ) none () (N := 16384) (by rfl)) $$ [HF HO]
  · isplitl [HF]; · iexact HF
    iexact HO
  rw [zR_result c X Y]
  iintro ⟨⟨Hz, Hb⟩, Hv, HO⟩
  iapply Hk
  isplitl [Hb]; · iexists _; iexact Hb
  isplitl [Hz]; · iexact Hz
  isplitl [Hv]; · iexact Hv
  iexists _; iexact HO

/-! The boxes loaded and stored lie in the pair's slots. -/

theorem rA_sub (r : Fin 2) (n : Fin 4) : (rA r n).set ⊆ (r2 r n).set := by
  intro i hi
  rw [Rect.mem_set_unit] at hi ⊢
  intro a
  have := hi a
  match a with
  | ⟨1, _⟩ => exact ⟨this.1, Nat.lt_of_lt_of_le this.2 (show 2 * n.val + 1 ≤ 2 * n.val + 2 by omega)⟩
  | ⟨0, _⟩ => exact this
  | ⟨2, _⟩ => exact this
  | ⟨3, _⟩ => exact this
  | ⟨4, _⟩ => exact this

theorem rB_sub (r : Fin 2) (n : Fin 4) : (rB r n).set ⊆ (r2 r n).set := by
  intro i hi
  rw [Rect.mem_set_unit] at hi ⊢
  intro a
  have := hi a
  match a with
  | ⟨1, _⟩ => exact ⟨Nat.le_trans (show 2 * n.val ≤ 2 * n.val + 1 by omega) this.1, Nat.lt_of_lt_of_le this.2 (show 2 * n.val + 1 + 1 ≤ 2 * n.val + 2 by omega)⟩
  | ⟨0, _⟩ => exact this
  | ⟨2, _⟩ => exact this
  | ⟨3, _⟩ => exact this
  | ⟨4, _⟩ => exact this

theorem pBuf_set (r : Fin 2) (n : Fin 4) : (pBuf r n).view.set = (r2 r n).set := (View.set_reshape _ _).trans (View.set_slice_whole _ _)
theorem cBuf_set (r : Fin 2) (n : Fin 4) : (cBuf r n).view.set = (rC r n).set := (View.set_reshape _ _).trans (View.set_slice_whole _ _)
theorem oBuf_set (r : Fin 2) (n : Fin 4) : (oBuf r n).view.set = (r2 r n).set := (View.set_reshape _ _).trans (View.set_slice_whole _ _)

theorem whole_setOn {κ : Kind} (b : Ref sig κ) (M : Finset b.ty.shape.Idx) : (Memref.whole b).view.setOn M = M := by
  ext i; simp [View.setOn]

theorem compute_ok (Q : PUnit → sProp 𝕄) {r : Fin 2} {s n : Fin 4} (h : sl s = r) (fp : Vec F S2x8x1x256x256 .f32) (fc : Vec F S2x4x1x256x256 .f32) (f : Vec F S2x8x1x256x256 .f32) :
    iprop(pB c r n (pGot X r s n fp) ∗ cB c r n (cGot Y r s n fc) ∗ oB c r n f)
      ⊢ iprop((iprop(pB c r n (pGot X r s n fp) ∗ cB c r n (cGot Y r s n fc) ∗ oB c r n (oGot X Y r s n f)) -∗ go c qs Q)
          -∗ go c (compute s n :: qs) Q) := by
  subst h
  have ha : (Memref.whole cc0_scratch0).view.setOn (rA (sl s) n).toLoadRect.set ⊆ (pBuf (sl s) n).view.set := by
    rw [whole_setOn, pBuf_set]; exact rA_sub _ _
  have hb : (Memref.whole cc0_scratch0).view.setOn (rB (sl s) n).toLoadRect.set ⊆ (pBuf (sl s) n).view.set := by
    rw [whole_setOn, pBuf_set]; exact rB_sub _ _
  have hc : (Memref.whole cc0_scratch1).view.setOn (rC (sl s) n).toLoadRect.set ⊆ (cBuf (sl s) n).view.set := by
    rw [whole_setOn, cBuf_set]
  have ha' : (Memref.whole cc0_scratch2).view.setOn (rA (sl s) n).toLoadRect.set ⊆ (oBuf (sl s) n).view.set := by
    rw [whole_setOn, oBuf_set]; exact rA_sub _ _
  have hb' : (Memref.whole cc0_scratch2).view.setOn (rB (sl s) n).toLoadRect.set ⊆ (oBuf (sl s) n).view.set := by
    rw [whole_setOn, oBuf_set]; exact rB_sub _ _
  have hA : ((Memref.whole cc0_scratch2).access (rA (sl s) n)).setOn Finset.univ ⊆ (oBuf (sl s) n).view.set := by
    rw [oBuf_set]; exact (View.set_slice_whole cc0_scratch2 (rA (sl s) n)).le.trans (rA_sub _ _)
  have hB : ((Memref.whole cc0_scratch2).access (rB (sl s) n)).setOn Finset.univ ⊆ (oBuf (sl s) n).view.set := by
    rw [oBuf_set]; exact (View.set_slice_whole cc0_scratch2 (rB (sl s) n)).le.trans (rB_sub _ _)
  iintro ⟨Hp, Hc, Ho⟩ Hk
  iapply (wp_load 𝒱₀ (c : Thread nD τ) none Set.univ ha) $$ Hp
  iintro Hp
  iapply (wp_load 𝒱₀ (c : Thread nD τ) none Set.univ hb) $$ Hp
  iintro Hp
  iapply (wp_load 𝒱₀ (c : Thread nD τ) none Set.univ hc) $$ Hc
  iintro Hc
  iapply (wp_load 𝒱₀ (c : Thread nD τ) none Set.univ ha') $$ Ho
  iintro Ho
  iapply (wp_store 𝒱₀ (c : Thread nD τ) none Set.univ hA) $$ Ho
  iintro Ho
  iapply (wp_load 𝒱₀ (c : Thread nD τ) none Set.univ hb') $$ Ho
  iintro Ho
  iapply (wp_store 𝒱₀ (c : Thread nD τ) none Set.univ hB) $$ Ho
  rw [loadA (sl s) s n X fp, loadB (sl s) s n X fp, loadC (sl s) s n Y fc]
  iintro Ho
  iapply Hk
  isplitl [Hp]; · iexact Hp
  isplitl [Hc]; · iexact Hc
  iexact Ho

end

end Cert.Proof.Body

end
-- ==== Proof.Lanes.lean ====
/-
  The eight lanes through their five phases, and the body's triple.
-/
module

public import proofs.«01_k».proof.Proof.Steps

@[expose] public section

set_option maxRecDepth 16384

noncomputable section

namespace Cert.Proof.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (chain)

variable {F : FTy → Type} [FloatOps F]

local notation "𝕄" => MT nD τ sig Unit (Elt F) ℕ (UU nD τ) ℕ

theorem lo_lt (r : Fin 2) : r.val < 4 := by have := r.isLt; omega
theorem hi_lt (r : Fin 2) : r.val + 2 < 4 := by have := r.isLt; omega
/-- The two batch rows that use slot `r`. -/
def lo (r : Fin 2) : Fin 4 := ⟨r.val, lo_lt r⟩
def hi (r : Fin 2) : Fin 4 := ⟨r.val + 2, hi_lt r⟩
theorem sl_lo : ∀ r : Fin 2, sl (lo r) = r := by decide
theorem sl_hi : ∀ r : Fin 2, sl (hi r) = r := by decide
theorem lo_add : ∀ r : Fin 2, lo r + 2 = hi r := by decide
theorem hi_sub : ∀ r : Fin 2, hi r - 2 = lo r := by decide

/-- A lane: a slot and a pair. -/
abbrev Lane : Type := Fin 2 × Fin 4
/-- The lanes in the order the body takes them. -/
def lanes : List Lane := [(0, 0), (0, 1), (0, 2), (0, 3), (1, 0), (1, 1), (1, 2), (1, 3)]

section
variable (c : Dev nD) (X : Vec F S4x8x1x256x256 .f32) (Y : Vec F S4x4x1x256x256 .f32)

/-! ## The phases -/

/-- At rest: slots at anything, semaphores at zero, both rows' arguments home, both rows' results at anything. -/
def St0 (l : Lane) : sProp 𝕄 :=
  iprop((∃ f, pB c l.1 l.2 f) ∗ pV (F := F) c l.1 l.2 ∗ (∃ f, cB c l.1 l.2 f) ∗ cV (F := F) c l.1 l.2 ∗ (∃ f, oB c l.1 l.2 f) ∗ oV (F := F) c l.1 l.2
    ∗ xR c X (lo l.1) l.2 ∗ xR c X (hi l.1) l.2 ∗ yR c Y (lo l.1) l.2 ∗ yR c Y (hi l.1) l.2 ∗ (∃ f, zR c (lo l.1) l.2 f) ∗ (∃ f, zR c (hi l.1) l.2 f))
/-- The first row's copies in flight. -/
def St1 (l : Lane) : sProp 𝕄 :=
  iprop(pF c X l.1 (lo l.1) l.2 ∗ cF c Y l.1 (lo l.1) l.2 ∗ (∃ f, oB c l.1 l.2 f) ∗ oV (F := F) c l.1 l.2
    ∗ xR c X (hi l.1) l.2 ∗ yR c Y (hi l.1) l.2 ∗ (∃ f, zR c (lo l.1) l.2 f) ∗ (∃ f, zR c (hi l.1) l.2 f))
/-- The second row's copies and the first row's result in flight. -/
def St2 (l : Lane) : sProp 𝕄 :=
  iprop(pF c X l.1 (hi l.1) l.2 ∗ cF c Y l.1 (hi l.1) l.2 ∗ oF c X Y l.1 (lo l.1) l.2
    ∗ xR c X (lo l.1) l.2 ∗ yR c Y (lo l.1) l.2 ∗ (∃ f, zR c (hi l.1) l.2 f))
/-- The second row's result in flight, the first's written. -/
def St3 (l : Lane) : sProp 𝕄 :=
  iprop((∃ f, pB c l.1 l.2 f) ∗ pV (F := F) c l.1 l.2 ∗ (∃ f, cB c l.1 l.2 f) ∗ cV (F := F) c l.1 l.2 ∗ oF c X Y l.1 (hi l.1) l.2
    ∗ xR c X (lo l.1) l.2 ∗ xR c X (hi l.1) l.2 ∗ yR c Y (lo l.1) l.2 ∗ yR c Y (hi l.1) l.2 ∗ zR c (lo l.1) l.2 (result X Y))
/-- At rest, both rows' results written. -/
def St4 (l : Lane) : sProp 𝕄 :=
  iprop((∃ f, pB c l.1 l.2 f) ∗ pV (F := F) c l.1 l.2 ∗ (∃ f, cB c l.1 l.2 f) ∗ cV (F := F) c l.1 l.2 ∗ (∃ f, oB c l.1 l.2 f) ∗ oV (F := F) c l.1 l.2
    ∗ xR c X (lo l.1) l.2 ∗ xR c X (hi l.1) l.2 ∗ yR c Y (lo l.1) l.2 ∗ yR c Y (hi l.1) l.2 ∗ zR c (lo l.1) l.2 (result X Y) ∗ zR c (hi l.1) l.2 (result X Y))

/-- A lane's step of a phase: its state `A` and the core's waits taken to `B` and the core's waits. -/
abbrev Advances (Q : PUnit → sProp 𝕄) (A B : Lane → sProp 𝕄) (g : Lane → List (P F)) : Prop :=
  ∀ (l : Lane) (qs : List (P F)), iprop(A l ∗ ow c) ⊢ iprop((iprop(B l ∗ ow c) -∗ go c qs Q) -∗ go c (g l ++ qs) Q)

theorem step0 (Q : PUnit → sProp 𝕄) : Advances c Q (St0 c X Y) (St1 c X Y) (fun l => ahead (lo l.1) l.2) := by
  rintro ⟨r, n⟩ qs
  unfold St0 St1
  dsimp only
  show _ ⊢ iprop(_ -∗ go c (startP (lo r) n :: startC (lo r) n :: qs) Q)
  iintro ⟨⟨⟨%fp, Hp⟩, Hpv, ⟨%fc, Hc⟩, Hcv, Ho, Hov, Hx, Hx', Hy, Hy', Hz, Hz'⟩, HO⟩ Hk
  iapply (startP_ok c X _ Q (sl_lo r) fp) $$ [Hp Hpv Hx]
  · isplitl [Hp]; · iexact Hp
    isplitl [Hpv]; · iexact Hpv
    iexact Hx
  iintro HP
  iapply (startC_ok c Y _ Q (sl_lo r) fc) $$ [Hc Hcv Hy]
  · isplitl [Hc]; · iexact Hc
    isplitl [Hcv]; · iexact Hcv
    iexact Hy
  iintro HC
  iapply Hk
  isplitr [HO]
  · isplitl [HP]; · iexact HP
    isplitl [HC]; · iexact HC
    isplitl [Ho]; · iexact Ho
    isplitl [Hov]; · iexact Hov
    isplitl [Hx']; · iexact Hx'
    isplitl [Hy']; · iexact Hy'
    isplitl [Hz]; · iexact Hz
    iexact Hz'
  iexact HO

theorem step1 (Q : PUnit → sProp 𝕄) : Advances c Q (St1 c X Y) (St2 c X Y) (fun l => early (lo l.1) l.2) := by
  rintro ⟨r, n⟩ qs
  unfold St1 St2
  dsimp only
  show _ ⊢ iprop(_ -∗ go c (waitP (lo r) n :: waitC (lo r) n :: compute (lo r) n :: startO (lo r) n :: startP (lo r + 2) n :: startC (lo r + 2) n :: qs) Q)
  rw [lo_add r]
  iintro ⟨⟨HP, HC, ⟨%fo, Ho⟩, Hov, Hx', Hy', ⟨%fz, Hz⟩, Hz'⟩, HO⟩ Hk
  iapply (waitP_ok c X _ Q (sl_lo r)) $$ [HP HO]
  · isplitl [HP]; · iexact HP
    iexact HO
  iintro ⟨⟨%fp, Hp⟩, Hx, Hpv, HO⟩
  iapply (waitC_ok c Y _ Q (sl_lo r)) $$ [HC HO]
  · isplitl [HC]; · iexact HC
    iexact HO
  iintro ⟨⟨%fc, Hc⟩, Hy, Hcv, HO⟩
  iapply (compute_ok c X Y _ Q (sl_lo r) fp fc fo) $$ [Hp Hc Ho]
  · isplitl [Hp]; · iexact Hp
    isplitl [Hc]; · iexact Hc
    iexact Ho
  iintro ⟨Hp, Hc, Ho⟩
  iapply (startO_ok c X Y _ Q (sl_lo r) fz fo) $$ [Ho Hov Hz]
  · isplitl [Ho]; · iexact Ho
    isplitl [Hov]; · iexact Hov
    iexact Hz
  iintro HR
  iapply (startP_ok c X _ Q (sl_hi r) _) $$ [Hp Hpv Hx']
  · isplitl [Hp]; · iexact Hp
    isplitl [Hpv]; · iexact Hpv
    iexact Hx'
  iintro HP
  iapply (startC_ok c Y _ Q (sl_hi r) _) $$ [Hc Hcv Hy']
  · isplitl [Hc]; · iexact Hc
    isplitl [Hcv]; · iexact Hcv
    iexact Hy'
  iintro HC
  iapply Hk
  isplitr [HO]
  · isplitl [HP]; · iexact HP
    isplitl [HC]; · iexact HC
    isplitl [HR]; · iexact HR
    isplitl [Hx]; · iexact Hx
    isplitl [Hy]; · iexact Hy
    iexact Hz'
  iexact HO

theorem step2 (Q : PUnit → sProp 𝕄) : Advances c Q (St2 c X Y) (St3 c X Y) (fun l => late (hi l.1) l.2) := by
  rintro ⟨r, n⟩ qs
  unfold St2 St3
  dsimp only
  show _ ⊢ iprop(_ -∗ go c (waitP (hi r) n :: waitC (hi r) n :: waitO (hi r - 2) n :: compute (hi r) n :: startO (hi r) n :: qs) Q)
  rw [hi_sub r]
  iintro ⟨⟨HP, HC, HR, Hx, Hy, ⟨%fz, Hz'⟩⟩, HO⟩ Hk
  iapply (waitP_ok c X _ Q (sl_hi r)) $$ [HP HO]
  · isplitl [HP]; · iexact HP
    iexact HO
  iintro ⟨⟨%fp, Hp⟩, Hx', Hpv, HO⟩
  iapply (waitC_ok c Y _ Q (sl_hi r)) $$ [HC HO]
  · isplitl [HC]; · iexact HC
    iexact HO
  iintro ⟨⟨%fc, Hc⟩, Hy', Hcv, HO⟩
  iapply (waitO_ok c X Y _ Q (sl_lo r)) $$ [HR HO]
  · isplitl [HR]; · iexact HR
    iexact HO
  iintro ⟨⟨%fo, Ho⟩, Hz, Hov, HO⟩
  iapply (compute_ok c X Y _ Q (sl_hi r) fp fc fo) $$ [Hp Hc Ho]
  · isplitl [Hp]; · iexact Hp
    isplitl [Hc]; · iexact Hc
    iexact Ho
  iintro ⟨Hp, Hc, Ho⟩
  iapply (startO_ok c X Y _ Q (sl_hi r) fz fo) $$ [Ho Hov Hz']
  · isplitl [Ho]; · iexact Ho
    isplitl [Hov]; · iexact Hov
    iexact Hz'
  iintro HR
  iapply Hk
  isplitr [HO]
  · isplitl [Hp]; · iexists _; iexact Hp
    isplitl [Hpv]; · iexact Hpv
    isplitl [Hc]; · iexists _; iexact Hc
    isplitl [Hcv]; · iexact Hcv
    isplitl [HR]; · iexact HR
    isplitl [Hx]; · iexact Hx
    isplitl [Hx']; · iexact Hx'
    isplitl [Hy]; · iexact Hy
    isplitl [Hy']; · iexact Hy'
    iexact Hz
  iexact HO

theorem step3 (Q : PUnit → sProp 𝕄) : Advances c Q (St3 c X Y) (St4 c X Y) (fun l => [waitO (hi l.1) l.2]) := by
  rintro ⟨r, n⟩ qs
  unfold St3 St4
  dsimp only
  show _ ⊢ iprop(_ -∗ go c (waitO (hi r) n :: qs) Q)
  iintro ⟨⟨Hp, Hpv, Hc, Hcv, HR, Hx, Hx', Hy, Hy', Hz⟩, HO⟩ Hk
  iapply (waitO_ok c X Y _ Q (sl_hi r)) $$ [HR HO]
  · isplitl [HR]; · iexact HR
    iexact HO
  iintro ⟨Ho, Hz', Hov, HO⟩
  iapply Hk
  isplitr [HO]
  · isplitl [Hp]; · iexact Hp
    isplitl [Hpv]; · iexact Hpv
    isplitl [Hc]; · iexact Hc
    isplitl [Hcv]; · iexact Hcv
    isplitl [Ho]; · iexact Ho
    isplitl [Hov]; · iexact Hov
    isplitl [Hx]; · iexact Hx
    isplitl [Hx']; · iexact Hx'
    isplitl [Hy]; · iexact Hy
    isplitl [Hy']; · iexact Hy'
    isplitl [Hz]; · iexact Hz
    iexact Hz'
  iexact HO

/-! ## All lanes -/

/-- A phase over a list of lanes. -/
theorem advance (Q : PUnit → sProp 𝕄) {A B : Lane → sProp 𝕄} {g : Lane → List (P F)} (h : Advances c Q A B g) (L : List Lane) :
    ∀ qs : List (P F), iprop(bigSepL L A ∗ ow c) ⊢ iprop((iprop(bigSepL L B ∗ ow c) -∗ go c qs Q) -∗ go c (L.flatMap g ++ qs) Q) := by
  induction L with
  | nil =>
    intro qs
    show iprop(bigSepL [] A ∗ ow c) ⊢ iprop(_ -∗ go c qs Q)
    iintro ⟨HA, HO⟩ Hk
    iapply Hk
    isplitl [HA]; · iexact HA
    iexact HO
  | cons l L ih =>
    intro qs
    rw [List.flatMap_cons, List.append_assoc, bigSepL_cons', bigSepL_cons']
    iintro ⟨⟨Hl, HL⟩, HO⟩ Hk
    iapply (h l _) $$ [Hl HO]
    · isplitl [Hl]; · iexact Hl
      iexact HO
    iintro ⟨Hl, HO⟩
    iapply (ih qs) $$ [HL HO]
    · isplitl [HL]; · iexact HL
      iexact HO
    iintro ⟨HL, HO⟩
    iapply Hk
    isplitr [HO]
    · isplitl [Hl]; · iexact Hl
      iexact HL
    iexact HO

/-- The body's steps are the four phases over the lanes. -/
theorem steps_eq : steps (F := F) = lanes.flatMap (fun l => ahead (lo l.1) l.2) ++ (lanes.flatMap (fun l => early (lo l.1) l.2)
    ++ (lanes.flatMap (fun l => late (hi l.1) l.2) ++ (lanes.flatMap (fun l => [waitO (hi l.1) l.2]) ++ []))) := by sl_kernel_rfl

/-- THE BODY: from every lane at rest to every lane at rest, its results written. -/
theorem body_run (p : P F) (hp : p = Pipeline.chain steps) (Q : PUnit → sProp 𝕄) :
    iprop((bigSepL lanes (St0 c X Y) ∗ ow c) ∗ (iprop(bigSepL lanes (St4 c X Y) ∗ ow c) -∗ Q ⟨⟩))
      ⊢ wp frame (wpE (defs₀ (F := F)) 𝒱₀ (c : Thread nD τ) none) Set.univ p Q := by
  rw [hp, steps_eq]
  iintro ⟨H, Hk⟩
  iapply (advance c Q (step0 c X Y Q) lanes _) $$ H
  iintro H
  iapply (advance c Q (step1 c X Y Q) lanes _) $$ H
  iintro H
  iapply (advance c Q (step2 c X Y Q) lanes _) $$ H
  iintro H
  iapply (advance c Q (step3 c X Y Q) lanes _) $$ H
  iintro H
  unfold go
  rw [Pipeline.chain_nil]
  sl_step
  iapply Hk
  iexact H

end

end Cert.Proof.Body

end
-- ==== Proof.Launch.lean ====
/-
  The kernel's run: the launch splits the whole buffers into the lanes' pieces and joins them back, and the body takes
  every lane from rest to rest with its results written. At the end the result buffer holds `result` of the arguments,
  the arguments are unchanged and every semaphore counter is zero.
-/
module

public import proofs.«01_k».proof.Proof.Lanes

@[expose] public section

set_option maxRecDepth 16384

noncomputable section

namespace Cert.Proof.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
abbrev EP : Emb (UR sig nD τ) (MT nD τ sig Unit (Elt F) ℕ (UU nD τ) ℕ) := embL

theorem entails_of_eq {P Q : sProp 𝕄} (e : P = Q) : P ⊢ Q := e ▸ .rfl

/-! ## The pieces of the buffers -/

/-- A family of sets that are the fibres of a function is pairwise disjoint -/
theorem fibres_disjoint {B Z : Type} [DecidableEq Z] {I : B → Finset Z} {key : Z → B} (h : ∀ b y, y ∈ I b ↔ key y = b) :
    ∀ b b' : B, b ≠ b' → Disjoint (I b) (I b') := by
  intro b b' hne
  rw [Finset.disjoint_left]
  intro y hy hy'
  rw [h] at hy hy'
  exact hne (hy.symm.trans hy')
/-- and covers. -/
theorem fibres_cover {B Z : Type} [Fintype B] [Fintype Z] [DecidableEq Z] {I : B → Finset Z} {key : Z → B} (h : ∀ b y, y ∈ I b ↔ key y = b) :
    (Finset.univ : Finset B).biUnion I = Finset.univ := by
  ext y
  simp only [Finset.mem_biUnion, Finset.mem_univ, true_and, iff_true]
  exact ⟨key y, (h _ _).mpr rfl⟩

theorem row_lt (r b : Fin 2) : r.val + 2 * b.val < 4 := by have := r.isLt; have := b.isLt; omega
/-- The batch row of slot `r`, first or second. -/
abbrev row (r b : Fin 2) : Fin 4 := ⟨r.val + 2 * b.val, row_lt r b⟩

abbrev IX (l : Lane × Fin 2) : Finset S4x8x1x256x256.Idx := (g2 (row l.1.1 l.2) l.1.2).set
abbrev IY (l : Lane × Fin 2) : Finset S4x4x1x256x256.Idx := (g1 (row l.1.1 l.2) l.1.2).set
abbrev IP (l : Lane) : Finset S2x8x1x256x256.Idx := (r2 l.1 l.2).set
abbrev IC (l : Lane) : Finset S2x4x1x256x256.Idx := (rC l.1 l.2).set

def keyX (y : S4x8x1x256x256.Idx) : Lane × Fin 2 :=
  ((⟨(y 0).val % 2, Nat.mod_lt _ (by decide)⟩, ⟨(y 1).val / 2, by have : (y 1).val < 8 := (y 1).isLt; omega⟩), ⟨(y 0).val / 2, by have : (y 0).val < 4 := (y 0).isLt; omega⟩)
def keyY (y : S4x4x1x256x256.Idx) : Lane × Fin 2 :=
  ((⟨(y 0).val % 2, Nat.mod_lt _ (by decide)⟩, ⟨(y 1).val, (y 1).isLt⟩), ⟨(y 0).val / 2, by have : (y 0).val < 4 := (y 0).isLt; omega⟩)
def keyP (y : S2x8x1x256x256.Idx) : Lane :=
  (⟨(y 0).val, (y 0).isLt⟩, ⟨(y 1).val / 2, by have : (y 1).val < 8 := (y 1).isLt; omega⟩)
def keyC (y : S2x4x1x256x256.Idx) : Lane := (⟨(y 0).val, (y 0).isLt⟩, ⟨(y 1).val, (y 1).isLt⟩)

/-- Membership in a box of whole pixel planes reads off the first two coordinates. -/
theorem mem_box {A B a b k : ℕ} (y : (⟨5, ![A, B, 1, 256, 256]⟩ : Shape).Idx)
    {inb : ∀ i, (![a, b, 0, 0, 0] : Fin 5 → ℕ) i + (![1, k, 1, 256, 256] : Fin 5 → ℕ) i ≤ (⟨5, ![A, B, 1, 256, 256]⟩ : Shape).size i} :
    y ∈ (Rect.unit (s := ⟨5, ![A, B, 1, 256, 256]⟩) ![a, b, 0, 0, 0] ![1, k, 1, 256, 256] inb).set
      ↔ (y 0).val = a ∧ b ≤ (y 1).val ∧ (y 1).val < b + k := by
  rw [Rect.mem_set_unit]
  constructor
  · intro H
    have h0 : a ≤ (y 0).val ∧ (y 0).val < a + 1 := H 0
    have h1 : b ≤ (y 1).val ∧ (y 1).val < b + k := H 1
    omega
  · intro H i
    match i with
    | ⟨0, _⟩ => show a ≤ (y 0).val ∧ (y 0).val < a + 1; omega
    | ⟨1, _⟩ => exact H.2
    | ⟨2, _⟩ => have : (y 2).val < 1 := (y 2).isLt; show 0 ≤ (y 2).val ∧ (y 2).val < 0 + 1; omega
    | ⟨3, _⟩ => have : (y 3).val < 256 := (y 3).isLt; show 0 ≤ (y 3).val ∧ (y 3).val < 0 + 256; omega
    | ⟨4, _⟩ => have : (y 4).val < 256 := (y 4).isLt; show 0 ≤ (y 4).val ∧ (y 4).val < 0 + 256; omega

theorem mem_IX (l : Lane × Fin 2) (y : S4x8x1x256x256.Idx) : y ∈ IX l ↔ keyX y = l := by
  obtain ⟨⟨r, n⟩, b⟩ := l
  refine (mem_box y).trans ?_
  have := r.isLt; have := b.isLt; have := n.isLt
  simp only [keyX, Prod.mk.injEq, Fin.ext_iff]
  omega
theorem mem_IY (l : Lane × Fin 2) (y : S4x4x1x256x256.Idx) : y ∈ IY l ↔ keyY y = l := by
  obtain ⟨⟨r, n⟩, b⟩ := l
  refine (mem_box y).trans ?_
  have := r.isLt; have := b.isLt; have := n.isLt
  simp only [keyY, Prod.mk.injEq, Fin.ext_iff]
  omega
theorem mem_IP (l : Lane) (y : S2x8x1x256x256.Idx) : y ∈ IP l ↔ keyP y = l := by
  obtain ⟨r, n⟩ := l
  refine (mem_box y).trans ?_
  have := r.isLt; have := n.isLt
  simp only [keyP, Prod.mk.injEq, Fin.ext_iff]
  omega
theorem mem_IC (l : Lane) (y : S2x4x1x256x256.Idx) : y ∈ IC l ↔ keyC y = l := by
  obtain ⟨r, n⟩ := l
  refine (mem_box y).trans ?_
  have := r.isLt; have := n.isLt
  simp only [keyC, Prod.mk.injEq, Fin.ext_iff]
  omega

theorem pSrc_set (s n : Fin 4) : (pSrc s n).view.set = (g2 s n).set := (View.set_reshape _ _).trans (View.set_slice_whole _ _)
theorem cSrc_set (s n : Fin 4) : (cSrc s n).view.set = (g1 s n).set := (View.set_reshape _ _).trans (View.set_slice_whole _ _)
theorem oDst_set (s n : Fin 4) : (oDst s n).view.set = (g2 s n).set := (View.set_reshape _ _).trans (View.set_slice_whole _ _)

section
variable (c : Dev nD) (X : Vec F S4x8x1x256x256 .f32) (Y : Vec F S4x4x1x256x256 .f32)

theorem xR_eq (s n : Fin 4) : (xR c X s n : sProp 𝕄) = (((c : Thread nD τ).loc main_arg0) ↦[(g2 s n).set]{fullShare} X) :=
  congrArg (fun S => (((c : Thread nD τ).loc main_arg0) ↦[S]{fullShare} X : sProp 𝕄)) (pSrc_set s n)
theorem yR_eq (s n : Fin 4) : (yR c Y s n : sProp 𝕄) = (((c : Thread nD τ).loc main_arg1) ↦[(g1 s n).set]{fullShare} Y) :=
  congrArg (fun S => (((c : Thread nD τ).loc main_arg1) ↦[S]{fullShare} Y : sProp 𝕄)) (cSrc_set s n)
theorem zR_eq (s n : Fin 4) (f : Vec F S4x8x1x256x256 .f32) : (zR c s n f : sProp 𝕄) = (((c : Thread nD τ).loc main_v0) ↦[(g2 s n).set]{fullShare} f) :=
  congrArg (fun S => (((c : Thread nD τ).loc main_v0) ↦[S]{fullShare} f : sProp 𝕄)) (oDst_set s n)
theorem pB_eq (r : Fin 2) (n : Fin 4) (f : Vec F S2x8x1x256x256 .f32) : (pB c r n f : sProp 𝕄) = (((c : Thread nD τ).loc cc0_scratch0) ↦[(r2 r n).set]{fullShare} f) :=
  congrArg (fun S => (((c : Thread nD τ).loc cc0_scratch0) ↦[S]{fullShare} f : sProp 𝕄)) (pBuf_set r n)
theorem cB_eq (r : Fin 2) (n : Fin 4) (f : Vec F S2x4x1x256x256 .f32) : (cB c r n f : sProp 𝕄) = (((c : Thread nD τ).loc cc0_scratch1) ↦[(rC r n).set]{fullShare} f) :=
  congrArg (fun S => (((c : Thread nD τ).loc cc0_scratch1) ↦[S]{fullShare} f : sProp 𝕄)) (cBuf_set r n)
theorem oB_eq (r : Fin 2) (n : Fin 4) (f : Vec F S2x8x1x256x256 .f32) : (oB c r n f : sProp 𝕄) = (((c : Thread nD τ).loc cc0_scratch2) ↦[(r2 r n).set]{fullShare} f) :=
  congrArg (fun S => (((c : Thread nD τ).loc cc0_scratch2) ↦[S]{fullShare} f : sProp 𝕄)) (oBuf_set r n)

/-- A big separating conjunction of pairs, part by part. -/
theorem bigSep_two (A B : Lane → sProp 𝕄) :
    bigSep Finset.univ (fun l => iprop(A l ∗ B l)) = iprop(bigSep Finset.univ A ∗ bigSep Finset.univ B) := bigSep_sep _ _ _
/-- A big separating conjunction over lanes and rows, row by row. -/
theorem bigSep_rows (Φ : Lane × Fin 2 → sProp 𝕄) :
    bigSep Finset.univ Φ = iprop(bigSep Finset.univ (fun l : Lane => Φ (l, 0)) ∗ bigSep Finset.univ (fun l : Lane => Φ (l, 1))) := by
  rw [bigSep_univ_prod, ← bigSep_two]
  exact bigSep_congr fun l _ => bigSep_fin_two _

/-- The whole arguments, and the whole result, are the lanes' pieces. -/
theorem x_split : (((c : Thread nD τ).loc main_arg0) ↦{fullShare} X : sProp 𝕄)
    = iprop(bigSep Finset.univ (fun l : Lane => xR c X (lo l.1) l.2) ∗ bigSep Finset.univ (fun l : Lane => xR c X (hi l.1) l.2)) := by
  rw [Ring.pointsTo_blocks (ℓ := (c : Thread nD τ).loc main_arg0) IX (fibres_disjoint mem_IX) (fibres_cover mem_IX), bigSep_rows]
  simp only [xR_eq]; rfl
theorem y_split : (((c : Thread nD τ).loc main_arg1) ↦{fullShare} Y : sProp 𝕄)
    = iprop(bigSep Finset.univ (fun l : Lane => yR c Y (lo l.1) l.2) ∗ bigSep Finset.univ (fun l : Lane => yR c Y (hi l.1) l.2)) := by
  rw [Ring.pointsTo_blocks (ℓ := (c : Thread nD τ).loc main_arg1) IY (fibres_disjoint mem_IY) (fibres_cover mem_IY), bigSep_rows]
  simp only [yR_eq]; rfl
theorem z_split (f : Vec F S4x8x1x256x256 .f32) : (((c : Thread nD τ).loc main_v0) ↦{fullShare} f : sProp 𝕄)
    = iprop(bigSep Finset.univ (fun l : Lane => zR c (lo l.1) l.2 f) ∗ bigSep Finset.univ (fun l : Lane => zR c (hi l.1) l.2 f)) := by
  rw [Ring.pointsTo_blocks (ℓ := (c : Thread nD τ).loc main_v0) IX (fibres_disjoint mem_IX) (fibres_cover mem_IX), bigSep_rows]
  simp only [zR_eq]; rfl

/-- Pieces at one contents are pieces each at some. -/
theorem bigSep_ex {α : Type} (Φ : Lane → α → sProp 𝕄) (a : α) :
    bigSep Finset.univ (fun l => Φ l a) ⊢ bigSep Finset.univ (fun l => iprop(∃ a, Φ l a)) :=
  bigSep_mono fun l _ => exists_intro (Φ := Φ l) a

/-- The slots' buffers split into the lanes' slots, -/
theorem p_split : iprop(∃ f : Buf (Elt F) ((c : Thread nD τ).loc cc0_scratch0), ((c : Thread nD τ).loc cc0_scratch0) ↦{fullShare} f)
    ⊢ (bigSep Finset.univ (fun l : Lane => iprop(∃ f, pB c l.1 l.2 f)) : sProp 𝕄) := by
  simp only [pB_eq]
  iintro ⟨%f, H⟩
  ihave H2 := (entails_of_eq (Ring.pointsTo_blocks (Ix := Unit) (Name := ℕ) (U := UU nD τ) (Lvl := ℕ) (q := fullShare) (ℓ := (c : Thread nD τ).loc cc0_scratch0) IP (fibres_disjoint mem_IP) (fibres_cover mem_IP) f)) $$ H
  iapply (bigSep_ex (fun (l : Lane) f => (((c : Thread nD τ).loc cc0_scratch0) ↦[IP l]{fullShare} f : sProp 𝕄)) f) $$ H2
theorem c_split : iprop(∃ f : Buf (Elt F) ((c : Thread nD τ).loc cc0_scratch1), ((c : Thread nD τ).loc cc0_scratch1) ↦{fullShare} f)
    ⊢ (bigSep Finset.univ (fun l : Lane => iprop(∃ f, cB c l.1 l.2 f)) : sProp 𝕄) := by
  simp only [cB_eq]
  iintro ⟨%f, H⟩
  ihave H2 := (entails_of_eq (Ring.pointsTo_blocks (Ix := Unit) (Name := ℕ) (U := UU nD τ) (Lvl := ℕ) (q := fullShare) (ℓ := (c : Thread nD τ).loc cc0_scratch1) IC (fibres_disjoint mem_IC) (fibres_cover mem_IC) f)) $$ H
  iapply (bigSep_ex (fun (l : Lane) f => (((c : Thread nD τ).loc cc0_scratch1) ↦[IC l]{fullShare} f : sProp 𝕄)) f) $$ H2
theorem o_split : iprop(∃ f : Buf (Elt F) ((c : Thread nD τ).loc cc0_scratch2), ((c : Thread nD τ).loc cc0_scratch2) ↦{fullShare} f)
    ⊢ (bigSep Finset.univ (fun l : Lane => iprop(∃ f, oB c l.1 l.2 f)) : sProp 𝕄) := by
  simp only [oB_eq]
  iintro ⟨%f, H⟩
  ihave H2 := (entails_of_eq (Ring.pointsTo_blocks (Ix := Unit) (Name := ℕ) (U := UU nD τ) (Lvl := ℕ) (q := fullShare) (ℓ := (c : Thread nD τ).loc cc0_scratch2) IP (fibres_disjoint mem_IP) (fibres_cover mem_IP) f)) $$ H
  iapply (bigSep_ex (fun (l : Lane) f => (((c : Thread nD τ).loc cc0_scratch2) ↦[IP l]{fullShare} f : sProp 𝕄)) f) $$ H2
/-- and join back. -/
theorem p_join : (bigSep Finset.univ (fun l : Lane => iprop(∃ f, pB c l.1 l.2 f)) : sProp 𝕄)
    ⊢ iprop(∃ f : Buf (Elt F) ((c : Thread nD τ).loc cc0_scratch0), ((c : Thread nD τ).loc cc0_scratch0) ↦{fullShare} f) := by
  simp only [pB_eq]
  exact Ring.pointsTo_blocks_join_exists (ℓ := (c : Thread nD τ).loc cc0_scratch0) IP (fibres_disjoint mem_IP) (fibres_cover mem_IP) default
theorem c_join : (bigSep Finset.univ (fun l : Lane => iprop(∃ f, cB c l.1 l.2 f)) : sProp 𝕄)
    ⊢ iprop(∃ f : Buf (Elt F) ((c : Thread nD τ).loc cc0_scratch1), ((c : Thread nD τ).loc cc0_scratch1) ↦{fullShare} f) := by
  simp only [cB_eq]
  exact Ring.pointsTo_blocks_join_exists (ℓ := (c : Thread nD τ).loc cc0_scratch1) IC (fibres_disjoint mem_IC) (fibres_cover mem_IC) default
theorem o_join : (bigSep Finset.univ (fun l : Lane => iprop(∃ f, oB c l.1 l.2 f)) : sProp 𝕄)
    ⊢ iprop(∃ f : Buf (Elt F) ((c : Thread nD τ).loc cc0_scratch2), ((c : Thread nD τ).loc cc0_scratch2) ↦{fullShare} f) := by
  simp only [oB_eq]
  exact Ring.pointsTo_blocks_join_exists (ℓ := (c : Thread nD τ).loc cc0_scratch2) IP (fibres_disjoint mem_IP) (fibres_cover mem_IP) default

/-! ## The kernel's own semaphores -/

/-- Lane by lane: the node copy's, the change copy's, the result copy's. -/
def osem : Lane × Fin 3 → SemLoc sig := fun k =>
  match k.2 with
  | ⟨0, _⟩ => .dma (pSem k.1.1 k.1.2).sem
  | ⟨1, _⟩ => .dma (cSem k.1.1 k.1.2).sem
  | ⟨_ + 2, _⟩ => .dma (oSem k.1.1 k.1.2).sem
theorem ownSemFacts : Pipeline.OwnSemFacts cfg0.spec osem := by decide

theorem ownSems0_eq : (Pipeline.ownSems0 (Ix := Unit) (Name := ℕ) (U := UU nD τ) (Lvl := ℕ) (Val := Elt F) (τ := τ) osem c : sProp 𝕄)
    = iprop(bigSep Finset.univ (fun l : Lane => pV (F := F) c l.1 l.2) ∗ bigSep Finset.univ (fun l : Lane => cV (F := F) c l.1 l.2)
        ∗ bigSep Finset.univ (fun l : Lane => oV (F := F) c l.1 l.2)) := by
  unfold Pipeline.ownSems0
  rw [bigSep_univ_prod, ← bigSep_two, ← bigSep_two]
  exact bigSep_congr fun l _ => bigSep_univ_eq_bigSepL [(0 : Fin 3), 1, 2] (by decide) (by decide) _

/-! ## All the lanes at rest -/

/-- At rest, results at anything: from the kernel's whole buffers and semaphores, -/
theorem rest_intro :
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ Pipeline.ownSems0 osem c
        ∗ (((c : Thread nD τ).loc main_arg0) ↦{fullShare} X) ∗ (((c : Thread nD τ).loc main_arg1) ↦{fullShare} Y)
        ∗ (∃ f : Buf (Elt F) ((c : Thread nD τ).loc main_v0), ((c : Thread nD τ).loc main_v0) ↦{fullShare} f))
      ⊢ (bigSep Finset.univ (St0 c X Y) : sProp 𝕄) := by
  unfold St0
  simp only [bigSep_two, ownSems0_eq, x_split, y_split]
  iintro ⟨Hp, Hc, Ho, ⟨Hpv, Hcv, Hov⟩, ⟨Hx, Hx'⟩, ⟨Hy, Hy'⟩, ⟨%f, Hz⟩⟩
  ihave Hz2 := (entails_of_eq (z_split c f)) $$ Hz
  icases Hz2 with ⟨Hz, Hz'⟩
  isplitl [Hp]; · iapply (p_split c); iexact Hp
  isplitl [Hpv]; · iexact Hpv
  isplitl [Hc]; · iapply (c_split c); iexact Hc
  isplitl [Hcv]; · iexact Hcv
  isplitl [Ho]; · iapply (o_split c); iexact Ho
  isplitl [Hov]; · iexact Hov
  isplitl [Hx]; · iexact Hx
  isplitl [Hx']; · iexact Hx'
  isplitl [Hy]; · iexact Hy
  isplitl [Hy']; · iexact Hy'
  isplitl [Hz]
  · iapply (bigSep_ex (fun (l : Lane) f => zR c (lo l.1) l.2 f) f); iexact Hz
  iapply (bigSep_ex (fun (l : Lane) f => zR c (hi l.1) l.2 f) f); iexact Hz'

/-- and, the results written, back to them. -/
theorem rest_elim :
    (bigSep Finset.univ (St4 c X Y) : sProp 𝕄)
      ⊢ iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ Pipeline.ownSems0 osem c
        ∗ (((c : Thread nD τ).loc main_arg0) ↦{fullShare} X) ∗ (((c : Thread nD τ).loc main_arg1) ↦{fullShare} Y)
        ∗ (((c : Thread nD τ).loc main_v0) ↦{fullShare} result X Y)) := by
  unfold St4
  simp only [bigSep_two, ownSems0_eq, x_split, y_split, z_split]
  iintro ⟨Hp, Hpv, Hc, Hcv, Ho, Hov, Hx, Hx', Hy, Hy', Hz, Hz'⟩
  isplitl [Hp]; · iapply (p_join c); iexact Hp
  isplitl [Hc]; · iapply (c_join c); iexact Hc
  isplitl [Ho]; · iapply (o_join c); iexact Ho
  isplitl [Hpv Hcv Hov]
  · isplitl [Hpv]; · iexact Hpv
    isplitl [Hcv]; · iexact Hcv
    iexact Hov
  isplitl [Hx Hx']
  · isplitl [Hx]; · iexact Hx
    iexact Hx'
  isplitl [Hy Hy']
  · isplitl [Hy]; · iexact Hy
    iexact Hy'
  isplitl [Hz]; · iexact Hz
  iexact Hz'

theorem lanes_bigSep (Φ : Lane → sProp 𝕄) : bigSep Finset.univ Φ = bigSepL lanes Φ :=
  bigSep_univ_eq_bigSepL lanes (by decide) (by decide) Φ

end

/-! ## The pipeline's proof data: no window, one point -/

variable (m : (ℓ : Loc nD τ sig) → Buf (Elt F) ℓ) (ρ : Dev nD → PrngReg)

/-- The arguments at launch. -/
abbrev argX (c : Dev nD) : Vec F S4x8x1x256x256 .f32 := m ((c : Thread nD τ).loc main_arg0)
abbrev argY (c : Dev nD) : Vec F S4x4x1x256x256 .f32 := m ((c : Thread nD τ).loc main_arg1)

def dats (_ : Fin 1) (c : Dev nD) : Dat τ (Elt F) Unit ℕ (UU nD τ) ℕ cfg0 c where
  A w := Fin.elim0 (show Fin 0 from w)
  after w _ := Fin.elim0 (show Fin 0 from w)
  Φ t := if t.val = 0 then bigSep Finset.univ (St0 c (argX m c) (argY m c)) else bigSep Finset.univ (St4 c (argX m c) (argY m c))
  q _ := fullShare
  owed _ := 0

theorem Phi_first (c : Dev nD) (t : Fin (cfg0.N + 1)) (h : t.val = 0) : (dats m 0 c).Φ t = bigSep Finset.univ (St0 c (argX m c) (argY m c)) := by
  dsimp only [dats]; exact if_pos h
theorem Phi_last (c : Dev nD) (t : Fin (cfg0.N + 1)) (h : t.val ≠ 0) : (dats m 0 c).Φ t = bigSep Finset.univ (St4 c (argX m c) (argY m c)) := by
  dsimp only [dats]; exact if_neg h

/-- The body table's entry is the kernel on the whole buffers. -/
theorem defs_tc : (defs₀ (F := F)) .tc cfg0.body
    = fun _ => cc0__pipe_kernel (Memref.whole main_arg0) (Memref.isWhole_whole _) (Memref.whole main_arg1) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 := rfl
theorem prog_eq (t : Fin cfg0.N) : (defs₀ (F := F)) .tc cfg0.body (cfg0.bodyArgs t (cfg0.slots t)) = Pipeline.chain steps :=
  (congrFun defs_tc _).trans (body_eq t)

theorem no_window (Φ : Fin cfg0.W → sProp 𝕄) : bigSep Finset.univ Φ = (BI.emp : sProp 𝕄) := bigSep_empty

/-- The body's triple, of the table's entry. -/
theorem entry_ok (c : Dev nD) (t : Fin cfg0.N) (X : Vec F S4x8x1x256x256 .f32) (Y : Vec F S4x4x1x256x256 .f32) (Q : PUnit → sProp 𝕄) :
    iprop((bigSepL lanes (St0 c X Y) ∗ ow c) ∗ (iprop(bigSepL lanes (St4 c X Y) ∗ ow c) -∗ Q ⟨⟩))
      ⊢ wp frame (wpE (defs₀ (F := F)) 𝒱₀ (c : Thread nD τ) none) Set.univ ((defs₀ (F := F)) .tc cfg0.body (cfg0.bodyArgs t (cfg0.slots t))) Q :=
  body_run c X Y _ (prog_eq t) Q

set_option backward.isDefEq.respectTransparency.types false in
theorem body_obligation (c : Dev nD) : BodyObligation (dats (F := F) m 0 c) (defs₀ (F := F)) 𝒱₀ () Set.univ := fun t => by
  have ht : t.val = 0 := by have := t.isLt; have e : cfg0.N = 1 := N_0; omega
  rw [no_window, no_window]
  rw [show (dats m 0 c).Φ t.castSucc = bigSepL lanes (St0 c (argX m c) (argY m c)) from (Phi_first m c _ ht).trans (lanes_bigSep _),
    show (dats m 0 c).Φ t.succ = bigSepL lanes (St4 c (argX m c) (argY m c)) from (Phi_last m c _ (Nat.succ_ne_zero _)).trans (lanes_bigSep _)]
  unfold Dat.owesAt Pipeline.owesWithin
  rw [show (dats m 0 c).owed t.castSucc = 0 from rfl, show (dats m 0 c).owed t.succ = 0 from rfl]
  iintro ⟨HL, ⟨%W, -, HW⟩, -⟩
  iapply (entry_ok c t (argX m c) (argY m c) _)
  isplitl [HL HW]
  · isplitl [HL]; · iexact HL
    iexists W; iexact HW
  iintro ⟨HL, ⟨%W', HW⟩⟩
  isplitl [HL]; · iexact HL
  isplitl [HW]
  · iexists W'; isplitr; · ipureintro; exact fun _ _ => Or.inl trivial
    iexact HW
  iempintro

/-! ## The run -/

def intoΦ (c : Dev nD) : sProp 𝕄 :=
  iprop(Pipeline.ownSems0 osem c ∗ (((c : Thread nD τ).loc main_arg0) ↦{fullShare} argX m c) ∗ (((c : Thread nD τ).loc main_arg1) ↦{fullShare} argY m c)
    ∗ (∃ f : Buf (Elt F) ((c : Thread nD τ).loc main_v0), ((c : Thread nD τ).loc main_v0) ↦{fullShare} f))
def outOfΦ (c : Dev nD) : sProp 𝕄 :=
  iprop((((c : Thread nD τ).loc main_arg0) ↦{fullShare} argX m c) ∗ (((c : Thread nD τ).loc main_arg1) ↦{fullShare} argY m c)
    ∗ (((c : Thread nD τ).loc main_v0) ↦{fullShare} result (argX m c) (argY m c)))
def besides (c : Dev nD) : sProp 𝕄 := ((c : Thread nD τ).loc main_arg2) ↦{fullShare} m ((c : Thread nD τ).loc main_arg2)
def u₀ : UU nD τ := (initOf (Pipeline.cells cfgs Cert.Kernel.Gen.cellOf_inj) (Pipeline.launchToks cfgs Cert.Kernel.Gen.cellOf_inj), 1)

/-- What a core's memory holds at the end. -/
def QY (c : Dev nD) (s : MemSt nD τ sig (Elt F)) : Prop :=
  s.mem ((c : Thread nD τ).loc main_v0) = result (argX m c) (argY m c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

set_option backward.isDefEq.respectTransparency.types false in
/-- For any float values, from any memory with zero counters: every weakly fair execution of the kernel's program
    terminates, and every final state has `result` of the arguments in the result buffer, the arguments unchanged and
    every semaphore counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => Fin.elim0 (show Fin 0 from w))
    (X := intoΦ m) (Y := outOfΦ m) (Z := besides m)
    (hX := fun c => by
      rw [unscopedRest0_eq]
      unfold intoΦ besides
      iintro ⟨⟨H0, H1, H2, H3⟩, HS, -, -, -⟩; imodintro
      isplitl [H0 H1 H3 HS]
      · isplitl [HS]; · iexact HS
        isplitl [H0]; · iexact H0
        isplitl [H1]; · iexact H1
        iexists _; iexact H3
      iexact H2)
    (hin := fun c => by
      rw [scopedRest0_eq, Phi_first m c 0 rfl]
      unfold intoΦ
      iintro ⟨⟨HS, H0, H1, H3⟩, Hp, Hc, Ho⟩
      iapply (rest_intro c (argX m c) (argY m c))
      isplitl [Hp]; · iexact Hp
      isplitl [Hc]; · iexact Hc
      isplitl [Ho]; · iexact Ho
      isplitl [HS]; · iexact HS
      isplitl [H0]; · iexact H0
      isplitl [H1]; · iexact H1
      iexact H3)
    (hout := fun c => by
      rw [scopedRest0_eq, Phi_last m c (Fin.last cfg0.N) (by decide)]
      unfold outOfΦ
      iintro H
      ihave H' := (rest_elim c (argX m c) (argY m c)) $$ H
      icases H' with ⟨Hp, Hc, Ho, HS, H0, H1, H3⟩
      isplitl [H0 H1 H3]
      · isplitl [H0]; · iexact H0
        isplitl [H1]; · iexact H1
        iexact H3
      isplitl [HS]; · iexact HS
      isplitl [Hp]; · iexact Hp
      isplitl [Hc]; · iexact Hc
      iexact Ho)
    (QY := QY m)
    (hY := fun c s' => by
      unfold outOfΦ besides
      iintro ⟨⟨H0, H1, H3⟩, H2, HSI⟩
      icombine HSI H0 gives %h0
      icombine HSI H1 gives %h1
      icombine HSI H2 gives %h2
      icombine HSI H3 gives %h3
      imodintro
      isplitr
      · ipureintro
        exact ⟨Buf.eq_of_forall_mem_univ h3, Buf.eq_of_forall_mem_univ h0, Buf.eq_of_forall_mem_univ h1, Buf.eq_of_forall_mem_univ h2⟩
      iexact HSI)
    (hQ := fun _ hh hz => ⟨fun c => (hh c).2, hz⟩)

end Cert.Proof.Body

end
-- ==== Proof.Twin.lean ====
/-
  The idealized kernel is the same program, printed again, so the kernel's run is its run.
-/
module

public import proofs.«01_k».proof.Proof.Launch
public import proofs.«01_k».proof.Proof.Gen.KernelIdeal

@[expose] public section

set_option maxRecDepth 16384

noncomputable section

namespace Cert.Proof.Body

open Idealize.ShloMosaic Idealize.ShloMosaic.TcCoe Idealize.SL.Sem Idealize.ShloMosaic.Tactic

variable {F : FTy → Type} [FloatOps F]

theorem main_twin : (Cert.KernelIdeal.main (F := F)) = Cert.Kernel.main := by sl_kernel_rfl
theorem defs_twin : (Cert.KernelIdeal.defs (F := F)) = Cert.Kernel.defs := by sl_kernel_rfl

open Cert.KernelIdeal in
/-- THE IDEALIZED KERNEL'S RUN: the result buffer ends at `result` of the arguments, which are unchanged, and every
    semaphore counter is zero. -/
theorem run_ideal (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_v0)
            = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  rw [main_twin, defs_twin]
  exact run_main m g

end Cert.Proof.Body

end
-- ==== Proof.RefRun.lean ====
/-
  The run of the reference program: its host operations as straight lines, one per stage of what it computes, and its
  run as the run of these lines.
-/
module

public import proofs.«01_k».proof.Defs
public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 32768

noncomputable section

namespace Cert.Proof.Ref

open Cert.ReferenceIdeal Cert.ReferenceIdeal.Gen
open Idealize.ShloMosaic Idealize.ShloMosaic.TcCoe Idealize.ShloMosaic.StableHlo Idealize.SL.Sem Idealize.ShloMosaic.Tactic

variable {F : FTy → Type} [FloatOps F]

/-! ## The stages -/

/-- The stage of the two arguments as rows of probabilities, clipped. -/
abbrev opsIn : List (HloOp τ sig (Elt F)) :=
  [ reshape main_arg0 main_v0 (rfl : (.f32 : EltTy) = .f32) shapeCasts_S4x8x1x256x256_S4x8x256x256,
    unary main_v0 main_v1 ((transpose S4x256x256x8 [0, 2, 3, 1] · transposes_S4x8x256x256_S4x256x256x8_0_2_3_1) : (⟨S4x8x256x256, .f32⟩ : BufTy).Contents (Elt F) → (⟨S4x256x256x8, .f32⟩ : BufTy).Contents (Elt F)),
    reshape main_v1 main_v2 (rfl : (.f32 : EltTy) = .f32) shapeCasts_S4x256x256x8_S262144x8,
    reshape main_arg1 main_v3 (rfl : (.f32 : EltTy) = .f32) shapeCasts_S4x4x1x256x256_S4x4x256x256,
    unary main_v3 main_v4 ((transpose S4x256x256x4 [0, 2, 3, 1] · transposes_S4x4x256x256_S4x256x256x4_0_2_3_1) : (⟨S4x4x256x256, .f32⟩ : BufTy).Contents (Elt F) → (⟨S4x256x256x4, .f32⟩ : BufTy).Contents (Elt F)),
    reshape main_v4 main_v5 (rfl : (.f32 : EltTy) = .f32) shapeCasts_S4x256x256x4_S262144x4,
    nullary main_cst (constant S_ .f32 0x358637BD#32),
    nullary main_cst_0 (constant S_ .f32 0x3F7FFFEF#32),
    unary main_cst main_call0_v0 (id : (⟨S_, .f32⟩ : BufTy).Contents (Elt F) → (⟨S_, .f32⟩ : BufTy).Contents (Elt F)),
    unary main_call0_v0 main_call0_v1 ((broadcastInDim S262144x8 ![] bcast_S_S262144x8) : (⟨S_, .f32⟩ : BufTy).Contents (Elt F) → (⟨S262144x8, .f32⟩ : BufTy).Contents (Elt F)),
    binary main_call0_v1 main_v2 main_call0_v2 (maximumf : (⟨S262144x8, .f32⟩ : BufTy).Contents (Elt F) → (⟨S262144x8, .f32⟩ : BufTy).Contents (Elt F) → (⟨S262144x8, .f32⟩ : BufTy).Contents (Elt F)),
    unary main_cst_0 main_call0_v3 (id : (⟨S_, .f32⟩ : BufTy).Contents (Elt F) → (⟨S_, .f32⟩ : BufTy).Contents (Elt F)),
    unary main_call0_v3 main_call0_v4 ((broadcastInDim S262144x8 ![] bcast_S_S262144x8) : (⟨S_, .f32⟩ : BufTy).Contents (Elt F) → (⟨S262144x8, .f32⟩ : BufTy).Contents (Elt F)),
    binary main_call0_v4 main_call0_v2 main_v6 (minimumf : (⟨S262144x8, .f32⟩ : BufTy).Contents (Elt F) → (⟨S262144x8, .f32⟩ : BufTy).Contents (Elt F) → (⟨S262144x8, .f32⟩ : BufTy).Contents (Elt F)),
    nullary main_cst_1 (constant S_ .f32 0x358637BD#32),
    nullary main_cst_2 (constant S_ .f32 0x3F7FFFEF#32),
    unary main_cst_1 main_call1_v0 (id : (⟨S_, .f32⟩ : BufTy).Contents (Elt F) → (⟨S_, .f32⟩ : BufTy).Contents (Elt F)),
    unary main_call1_v0 main_call1_v1 ((broadcastInDim S262144x4 ![] bcast_S_S262144x4) : (⟨S_, .f32⟩ : BufTy).Contents (Elt F) → (⟨S262144x4, .f32⟩ : BufTy).Contents (Elt F)),
    binary main_call1_v1 main_v5 main_call1_v2 (maximumf : (⟨S262144x4, .f32⟩ : BufTy).Contents (Elt F) → (⟨S262144x4, .f32⟩ : BufTy).Contents (Elt F) → (⟨S262144x4, .f32⟩ : BufTy).Contents (Elt F)),
    unary main_cst_2 main_call1_v3 (id : (⟨S_, .f32⟩ : BufTy).Contents (Elt F) → (⟨S_, .f32⟩ : BufTy).Contents (Elt F)),
    unary main_call1_v3 main_call1_v4 ((broadcastInDim S262144x4 ![] bcast_S_S262144x4) : (⟨S_, .f32⟩ : BufTy).Contents (Elt F) → (⟨S262144x4, .f32⟩ : BufTy).Contents (Elt F)),
    binary main_call1_v4 main_call1_v2 main_v7 (minimumf : (⟨S262144x4, .f32⟩ : BufTy).Contents (Elt F) → (⟨S262144x4, .f32⟩ : BufTy).Contents (Elt F) → (⟨S262144x4, .f32⟩ : BufTy).Contents (Elt F)) ]

/-- The stage of the table of the configurations' states. -/
abbrev opsState : List (HloOp τ sig (Elt F)) :=
  [ nullary main_v8 (iotaInDim S256 32 0),
    unary main_v8 main_v9 (broadcastInDim S256x1 ![0] bcast_S256_S256x1_0 : (⟨S256, .i32⟩ : BufTy).Contents (Elt F) → (⟨S256x1, .i32⟩ : BufTy).Contents (Elt F)),
    nullary main_v10 (iotaInDim S8 32 0),
    unary main_v10 main_v11 (broadcastInDim S1x8 ![1] bcast_S8_S1x8_1 : (⟨S8, .i32⟩ : BufTy).Contents (Elt F) → (⟨S1x8, .i32⟩ : BufTy).Contents (Elt F)),
    unary main_v9 main_v12 (broadcastInDim S256x8 ![0, 1] bcast_S256x1_S256x8_0_1 : (⟨S256x1, .i32⟩ : BufTy).Contents (Elt F) → (⟨S256x8, .i32⟩ : BufTy).Contents (Elt F)),
    unary main_v11 main_v13 (broadcastInDim S256x8 ![0, 1] bcast_S1x8_S256x8_0_1 : (⟨S1x8, .i32⟩ : BufTy).Contents (Elt F) → (⟨S256x8, .i32⟩ : BufTy).Contents (Elt F)),
    binary main_v12 main_v13 main_v14 (Host.shrsi : (⟨S256x8, .i32⟩ : BufTy).Contents (Elt F) → (⟨S256x8, .i32⟩ : BufTy).Contents (Elt F) → (⟨S256x8, .i32⟩ : BufTy).Contents (Elt F)),
    nullary main_c (constantI S_ 32 1#32),
    unary main_c main_v15 (broadcastInDim S256x8 ![] bcast_S_S256x8 : (⟨S_, .i32⟩ : BufTy).Contents (Elt F) → (⟨S256x8, .i32⟩ : BufTy).Contents (Elt F)),
    binary main_v14 main_v15 main_v16 (andi : (⟨S256x8, .i32⟩ : BufTy).Contents (Elt F) → (⟨S256x8, .i32⟩ : BufTy).Contents (Elt F) → (⟨S256x8, .i32⟩ : BufTy).Contents (Elt F)),
    unary main_v16 main_v17 (sitofp .f32 : (⟨S256x8, .i32⟩ : BufTy).Contents (Elt F) → (⟨S256x8, .f32⟩ : BufTy).Contents (Elt F)) ]

/-- The stage of which pairs of the edge list a configuration cuts. -/
abbrev opsCut : List (HloOp τ sig (Elt F)) :=
  [ unary main_arg2 main_v18 ((extractStridedSlice S4x1 ![0, 0] · slices_S4x2_S4x1_0_0) : (⟨S4x2, .i32⟩ : BufTy).Contents (Elt F) → (⟨S4x1, .i32⟩ : BufTy).Contents (Elt F)),
    reshape main_v18 main_v19 (rfl : (.i32 : EltTy) = .i32) shapeCasts_S4x1_S4,
    nullary main_c_3 (constantI S_ 32 0#32),
    unary main_c_3 main_v20 (broadcastInDim S4 ![] bcast_S_S4 : (⟨S_, .i32⟩ : BufTy).Contents (Elt F) → (⟨S4, .i32⟩ : BufTy).Contents (Elt F)),
    binary main_v19 main_v20 main_v21 (cmpi .slt : (⟨S4, .i32⟩ : BufTy).Contents (Elt F) → (⟨S4, .i32⟩ : BufTy).Contents (Elt F) → (⟨S4, .i1⟩ : BufTy).Contents (Elt F)),
    nullary main_c_4 (constantI S_ 32 8#32),
    unary main_c_4 main_v22 (broadcastInDim S4 ![] bcast_S_S4 : (⟨S_, .i32⟩ : BufTy).Contents (Elt F) → (⟨S4, .i32⟩ : BufTy).Contents (Elt F)),
    binary main_v19 main_v22 main_v23 (addi : (⟨S4, .i32⟩ : BufTy).Contents (Elt F) → (⟨S4, .i32⟩ : BufTy).Contents (Elt F) → (⟨S4, .i32⟩ : BufTy).Contents (Elt F)),
    ternary main_v21 main_v23 main_v19 main_v24 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v24 main_v25 (broadcastInDim S4x1 ![0] bcast_S4_S4x1_0 : (⟨S4, .i32⟩ : BufTy).Contents (Elt F) → (⟨S4x1, .i32⟩ : BufTy).Contents (Elt F)),
    binary main_v17 main_v25 main_v26 ((fun x i => Host.gather gather_S256x8_S4x1_S256x4_0_1_n_n_1_1_2561 x i) : (⟨S256x8, .f32⟩ : BufTy).Contents (Elt F) → (⟨S4x1, .i32⟩ : BufTy).Contents (Elt F) → (⟨S256x4, .f32⟩ : BufTy).Contents (Elt F)),
    unary main_arg2 main_v27 ((extractStridedSlice S4x1 ![0, 1] · slices_S4x2_S4x1_0_1) : (⟨S4x2, .i32⟩ : BufTy).Contents (Elt F) → (⟨S4x1, .i32⟩ : BufTy).Contents (Elt F)),
    reshape main_v27 main_v28 (rfl : (.i32 : EltTy) = .i32) shapeCasts_S4x1_S4,
    nullary main_c_5 (constantI S_ 32 0#32),
    unary main_c_5 main_v29 (broadcastInDim S4 ![] bcast_S_S4 : (⟨S_, .i32⟩ : BufTy).Contents (Elt F) → (⟨S4, .i32⟩ : BufTy).Contents (Elt F)),
    binary main_v28 main_v29 main_v30 (cmpi .slt : (⟨S4, .i32⟩ : BufTy).Contents (Elt F) → (⟨S4, .i32⟩ : BufTy).Contents (Elt F) → (⟨S4, .i1⟩ : BufTy).Contents (Elt F)),
    nullary main_c_6 (constantI S_ 32 8#32),
    unary main_c_6 main_v31 (broadcastInDim S4 ![] bcast_S_S4 : (⟨S_, .i32⟩ : BufTy).Contents (Elt F) → (⟨S4, .i32⟩ : BufTy).Contents (Elt F)),
    binary main_v28 main_v31 main_v32 (addi : (⟨S4, .i32⟩ : BufTy).Contents (Elt F) → (⟨S4, .i32⟩ : BufTy).Contents (Elt F) → (⟨S4, .i32⟩ : BufTy).Contents (Elt F)),
    ternary main_v30 main_v32 main_v28 main_v33 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v33 main_v34 (broadcastInDim S4x1 ![0] bcast_S4_S4x1_0 : (⟨S4, .i32⟩ : BufTy).Contents (Elt F) → (⟨S4x1, .i32⟩ : BufTy).Contents (Elt F)),
    binary main_v17 main_v34 main_v35 ((fun x i => Host.gather gather_S256x8_S4x1_S256x4_0_1_n_n_1_1_2561 x i) : (⟨S256x8, .f32⟩ : BufTy).Contents (Elt F) → (⟨S4x1, .i32⟩ : BufTy).Contents (Elt F) → (⟨S256x4, .f32⟩ : BufTy).Contents (Elt F)),
    binary main_v26 main_v35 main_v36 (subf : (⟨S256x4, .f32⟩ : BufTy).Contents (Elt F) → (⟨S256x4, .f32⟩ : BufTy).Contents (Elt F) → (⟨S256x4, .f32⟩ : BufTy).Contents (Elt F)),
    unary main_v36 main_v37 (Host.absf : (⟨S256x4, .f32⟩ : BufTy).Contents (Elt F) → (⟨S256x4, .f32⟩ : BufTy).Contents (Elt F)) ]

/-- The stage of the logarithms of the score's first half. -/
abbrev opsLog : List (HloOp τ sig (Elt F)) :=
  [ unary main_v6 main_v38 (Host.log : (⟨S262144x8, .f32⟩ : BufTy).Contents (Elt F) → (⟨S262144x8, .f32⟩ : BufTy).Contents (Elt F)),
    unary main_v17 main_v39 ((transpose S8x256 [1, 0] · transposes_S256x8_S8x256_1_0) : (⟨S256x8, .f32⟩ : BufTy).Contents (Elt F) → (⟨S8x256, .f32⟩ : BufTy).Contents (Elt F)),
    binary main_v38 main_v39 main_v40 ((fun l r => Host.dotGeneral dot_S262144x8_S8x256_S262144x256_1_0_0_1_n_n none l r) : (⟨S262144x8, .f32⟩ : BufTy).Contents (Elt F) → (⟨S8x256, .f32⟩ : BufTy).Contents (Elt F) → (⟨S262144x256, .f32⟩ : BufTy).Contents (Elt F)),
    unary main_v6 main_v41 (Host.negf : (⟨S262144x8, .f32⟩ : BufTy).Contents (Elt F) → (⟨S262144x8, .f32⟩ : BufTy).Contents (Elt F)),
    unary main_v41 main_v42 (Host.log1p : (⟨S262144x8, .f32⟩ : BufTy).Contents (Elt F) → (⟨S262144x8, .f32⟩ : BufTy).Contents (Elt F)),
    nullary main_cst_7 (constant S_ .f32 0x3F800000#32),
    unary main_cst_7 main_v43 (broadcastInDim S256x8 ![] bcast_S_S256x8 : (⟨S_, .f32⟩ : BufTy).Contents (Elt F) → (⟨S256x8, .f32⟩ : BufTy).Contents (Elt F)),
    binary main_v43 main_v17 main_v44 (subf : (⟨S256x8, .f32⟩ : BufTy).Contents (Elt F) → (⟨S256x8, .f32⟩ : BufTy).Contents (Elt F) → (⟨S256x8, .f32⟩ : BufTy).Contents (Elt F)),
    unary main_v44 main_v45 ((transpose S8x256 [1, 0] · transposes_S256x8_S8x256_1_0) : (⟨S256x8, .f32⟩ : BufTy).Contents (Elt F) → (⟨S8x256, .f32⟩ : BufTy).Contents (Elt F)),
    binary main_v42 main_v45 main_v46 ((fun l r => Host.dotGeneral dot_S262144x8_S8x256_S262144x256_1_0_0_1_n_n none l r) : (⟨S262144x8, .f32⟩ : BufTy).Contents (Elt F) → (⟨S8x256, .f32⟩ : BufTy).Contents (Elt F) → (⟨S262144x256, .f32⟩ : BufTy).Contents (Elt F)),
    binary main_v40 main_v46 main_v47 (addf : (⟨S262144x256, .f32⟩ : BufTy).Contents (Elt F) → (⟨S262144x256, .f32⟩ : BufTy).Contents (Elt F) → (⟨S262144x256, .f32⟩ : BufTy).Contents (Elt F)),
    unary main_v7 main_v48 (Host.log : (⟨S262144x4, .f32⟩ : BufTy).Contents (Elt F) → (⟨S262144x4, .f32⟩ : BufTy).Contents (Elt F)),
    unary main_v37 main_v49 ((transpose S4x256 [1, 0] · transposes_S256x4_S4x256_1_0) : (⟨S256x4, .f32⟩ : BufTy).Contents (Elt F) → (⟨S4x256, .f32⟩ : BufTy).Contents (Elt F)) ]

/-- The stage of the rest of the score. -/
abbrev opsScore : List (HloOp τ sig (Elt F)) :=
  [ binary main_v48 main_v49 main_v50 ((fun l r => Host.dotGeneral dot_S262144x4_S4x256_S262144x256_1_0_0_1_n_n none l r) : (⟨S262144x4, .f32⟩ : BufTy).Contents (Elt F) → (⟨S4x256, .f32⟩ : BufTy).Contents (Elt F) → (⟨S262144x256, .f32⟩ : BufTy).Contents (Elt F)),
    binary main_v47 main_v50 main_v51 (addf : (⟨S262144x256, .f32⟩ : BufTy).Contents (Elt F) → (⟨S262144x256, .f32⟩ : BufTy).Contents (Elt F) → (⟨S262144x256, .f32⟩ : BufTy).Contents (Elt F)),
    unary main_v7 main_v52 (Host.negf : (⟨S262144x4, .f32⟩ : BufTy).Contents (Elt F) → (⟨S262144x4, .f32⟩ : BufTy).Contents (Elt F)),
    unary main_v52 main_v53 (Host.log1p : (⟨S262144x4, .f32⟩ : BufTy).Contents (Elt F) → (⟨S262144x4, .f32⟩ : BufTy).Contents (Elt F)),
    nullary main_cst_8 (constant S_ .f32 0x3F800000#32),
    unary main_cst_8 main_v54 (broadcastInDim S256x4 ![] bcast_S_S256x4 : (⟨S_, .f32⟩ : BufTy).Contents (Elt F) → (⟨S256x4, .f32⟩ : BufTy).Contents (Elt F)),
    binary main_v54 main_v37 main_v55 (subf : (⟨S256x4, .f32⟩ : BufTy).Contents (Elt F) → (⟨S256x4, .f32⟩ : BufTy).Contents (Elt F) → (⟨S256x4, .f32⟩ : BufTy).Contents (Elt F)),
    unary main_v55 main_v56 ((transpose S4x256 [1, 0] · transposes_S256x4_S4x256_1_0) : (⟨S256x4, .f32⟩ : BufTy).Contents (Elt F) → (⟨S4x256, .f32⟩ : BufTy).Contents (Elt F)),
    binary main_v53 main_v56 main_v57 ((fun l r => Host.dotGeneral dot_S262144x4_S4x256_S262144x256_1_0_0_1_n_n none l r) : (⟨S262144x4, .f32⟩ : BufTy).Contents (Elt F) → (⟨S4x256, .f32⟩ : BufTy).Contents (Elt F) → (⟨S262144x256, .f32⟩ : BufTy).Contents (Elt F)),
    binary main_v51 main_v57 main_v58 (addf : (⟨S262144x256, .f32⟩ : BufTy).Contents (Elt F) → (⟨S262144x256, .f32⟩ : BufTy).Contents (Elt F) → (⟨S262144x256, .f32⟩ : BufTy).Contents (Elt F)) ]

/-- The stage of the first best configuration. -/
abbrev opsBest : List (HloOp τ sig (Elt F)) :=
  [ nullary main_call2_v0 (iotaInDim S262144x256 32 1),
    nullary main_call2_cst (constant S_ .f32 0xFF800000#32),
    nullary main_call2_c (constantI S_ 32 0#32),
    TRef.quaternary (.of main_v58 : TRef sig ⟨S262144x256, .f32⟩) (.of main_call2_v0 : TRef sig ⟨S262144x256, .i32⟩) (.of main_call2_cst : TRef sig ⟨S_, .f32⟩) (.of main_call2_c : TRef sig ⟨S_, .i32⟩) (.of main_call2_v1_0 : TRef sig ⟨S262144, .f32⟩) (fun x y u v j => (Host.argReduce reducer_argmax_f32_i32 x y u v reducesTo_S262144x256_S262144_d1 h_S_ j).1),
    TRef.quaternary (.of main_v58 : TRef sig ⟨S262144x256, .f32⟩) (.of main_call2_v0 : TRef sig ⟨S262144x256, .i32⟩) (.of main_call2_cst : TRef sig ⟨S_, .f32⟩) (.of main_call2_c : TRef sig ⟨S_, .i32⟩) (.of main_v59 : TRef sig ⟨S262144, .i32⟩) (fun x y u v j => (Host.argReduce reducer_argmax_f32_i32 x y u v reducesTo_S262144x256_S262144_d1 h_S_ j).2) ]

/-- The stage of its states, taken from the table. -/
abbrev opsTake : List (HloOp τ sig (Elt F)) :=
  [ nullary main_call3_c (constantI S_ 32 0#32),
    unary main_call3_c main_call3_v0 ((broadcastInDim S262144 ![] bcast_S_S262144) : (⟨S_, .i32⟩ : BufTy).Contents (Elt F) → (⟨S262144, .i32⟩ : BufTy).Contents (Elt F)),
    binary main_v59 main_call3_v0 main_call3_v1 ((cmpi .slt) : (⟨S262144, .i32⟩ : BufTy).Contents (Elt F) → (⟨S262144, .i32⟩ : BufTy).Contents (Elt F) → (⟨S262144, .i1⟩ : BufTy).Contents (Elt F)),
    nullary main_call3_c_0 (constantI S_ 32 256#32),
    unary main_call3_c_0 main_call3_v2 ((broadcastInDim S262144 ![] bcast_S_S262144) : (⟨S_, .i32⟩ : BufTy).Contents (Elt F) → (⟨S262144, .i32⟩ : BufTy).Contents (Elt F)),
    binary main_v59 main_call3_v2 main_call3_v3 (addi : (⟨S262144, .i32⟩ : BufTy).Contents (Elt F) → (⟨S262144, .i32⟩ : BufTy).Contents (Elt F) → (⟨S262144, .i32⟩ : BufTy).Contents (Elt F)),
    ternary main_call3_v1 main_call3_v3 main_v59 main_call3_v4 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_call3_v4 main_call3_v5 ((broadcastInDim S262144x1 ![0] bcast_S262144_S262144x1_0) : (⟨S262144, .i32⟩ : BufTy).Contents (Elt F) → (⟨S262144x1, .i32⟩ : BufTy).Contents (Elt F)),
    nullary main_call3_c_1 (constantI S1 32 255#32),
    nullary main_call3_c_2 (constantI S_ 32 0#32),
    unary main_call3_c_2 main_call3_v6 ((broadcastInDim S262144x1 ![] bcast_S_S262144x1) : (⟨S_, .i32⟩ : BufTy).Contents (Elt F) → (⟨S262144x1, .i32⟩ : BufTy).Contents (Elt F)),
    binary main_call3_v5 main_call3_v6 main_call3_v7 ((cmpi .sge) : (⟨S262144x1, .i32⟩ : BufTy).Contents (Elt F) → (⟨S262144x1, .i32⟩ : BufTy).Contents (Elt F) → (⟨S262144x1, .i1⟩ : BufTy).Contents (Elt F)),
    unary main_call3_c_1 main_call3_v8 ((broadcastInDim S1x1 ![1] bcast_S1_S1x1_1) : (⟨S1, .i32⟩ : BufTy).Contents (Elt F) → (⟨S1x1, .i32⟩ : BufTy).Contents (Elt F)),
    unary main_call3_v8 main_call3_v9 ((broadcastInDim S262144x1 ![0, 1] bcast_S1x1_S262144x1_0_1) : (⟨S1x1, .i32⟩ : BufTy).Contents (Elt F) → (⟨S262144x1, .i32⟩ : BufTy).Contents (Elt F)),
    binary main_call3_v5 main_call3_v9 main_call3_v10 ((cmpi .sle) : (⟨S262144x1, .i32⟩ : BufTy).Contents (Elt F) → (⟨S262144x1, .i32⟩ : BufTy).Contents (Elt F) → (⟨S262144x1, .i1⟩ : BufTy).Contents (Elt F)),
    binary main_call3_v7 main_call3_v10 main_call3_v11 (andi : (⟨S262144x1, .i1⟩ : BufTy).Contents (Elt F) → (⟨S262144x1, .i1⟩ : BufTy).Contents (Elt F) → (⟨S262144x1, .i1⟩ : BufTy).Contents (Elt F)),
    nullary main_call3_c_3 (constantI S_ 1 1#1),
    TRef.binary (.of main_call3_v11 : TRef sig ⟨S262144x1, .i1⟩) (.of main_call3_c_3 : TRef sig ⟨S_, .i1⟩) (.of main_call3_v12 : TRef sig ⟨S262144, .i1⟩) (fun x v => Host.reduce IntOp.andi x v reducesTo_S262144x1_S262144_d1 h_S_),
    binary main_v17 main_call3_v5 main_call3_v13 ((fun x i => Host.gather gather_S256x8_S262144x1_S262144x8_1_0_n_n_0_1_18 x i) : (⟨S256x8, .f32⟩ : BufTy).Contents (Elt F) → (⟨S262144x1, .i32⟩ : BufTy).Contents (Elt F) → (⟨S262144x8, .f32⟩ : BufTy).Contents (Elt F)),
    unary main_call3_v12 main_call3_v14 ((broadcastInDim S262144x8 ![0] bcast_S262144_S262144x8_0) : (⟨S262144, .i1⟩ : BufTy).Contents (Elt F) → (⟨S262144x8, .i1⟩ : BufTy).Contents (Elt F)),
    nullary main_call3_cst (constant S_ .f32 0x7FC00000#32),
    unary main_call3_cst main_call3_v15 ((broadcastInDim S262144x8 ![] bcast_S_S262144x8) : (⟨S_, .f32⟩ : BufTy).Contents (Elt F) → (⟨S262144x8, .f32⟩ : BufTy).Contents (Elt F)),
    ternary main_call3_v14 main_call3_v13 main_call3_v15 main_v60 (select : (⟨S262144x8, .i1⟩ : BufTy).Contents (Elt F) → (⟨S262144x8, .f32⟩ : BufTy).Contents (Elt F) → (⟨S262144x8, .f32⟩ : BufTy).Contents (Elt F) → (⟨S262144x8, .f32⟩ : BufTy).Contents (Elt F)) ]

/-- The stage of the result, laid out as the first argument. -/
abbrev opsOut : List (HloOp τ sig (Elt F)) :=
  [ reshape main_v60 main_v61 (rfl : (.f32 : EltTy) = .f32) shapeCasts_S262144x8_S4x256x256x8x1,
    unary main_v61 main_v62 ((transpose S4x8x1x256x256 [0, 3, 4, 1, 2] · transposes_S4x256x256x8x1_S4x8x1x256x256_0_3_4_1_2) : (⟨S4x256x256x8x1, .f32⟩ : BufTy).Contents (Elt F) → (⟨S4x8x1x256x256, .f32⟩ : BufTy).Contents (Elt F)) ]

/-! ## The program is the stages in order -/

/-- The whole line. -/
abbrev ops : List (HloOp τ sig (Elt F)) := opsIn ++ (opsState ++ (opsCut ++ (opsLog ++ (opsScore ++ (opsBest ++ (opsTake ++ opsOut))))))

theorem part0_eq (c : Dev nD) : main_part0 (F := F) c = seq (opsIn ++ (opsState ++ (opsCut ++ opsLog))) := rfl
theorem best_eq : fn_argmax.body (F := F) (.of main_v58) main_call2 = seq opsBest := rfl
theorem take_eq : fn_take.body (F := F) (.of main_v17) (.of main_v59) main_call3 = seq opsTake := rfl
theorem part1_eq (c : Dev nD) : main_part1 (F := F) c = seq (opsScore ++ (opsBest ++ (opsTake ++ opsOut))) := rfl

/-- The program is its whole line of operations. -/
theorem main_eq (c : Dev nD) : main (F := F) c = seq ops := by
  have h : (ops : List (HloOp τ sig (Elt F))) = (opsIn ++ (opsState ++ (opsCut ++ opsLog))) ++ (opsScore ++ (opsBest ++ (opsTake ++ opsOut))) := rfl
  rw [h, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches the core's own buffers only, and determines what it writes. -/

theorem opsIn_sub : (opsIn : List (HloOp τ sig (Elt F))).Forall fun op => op.bufs ⊆ tcRefs τ sig :=
  ⟨reshape_bufs_sub .., unary_bufs_sub .., reshape_bufs_sub .., reshape_bufs_sub .., unary_bufs_sub .., reshape_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub ..⟩
theorem opsState_sub : (opsState : List (HloOp τ sig (Elt F))).Forall fun op => op.bufs ⊆ tcRefs τ sig :=
  ⟨nullary_bufs_sub .., unary_bufs_sub .., nullary_bufs_sub .., unary_bufs_sub .., unary_bufs_sub .., unary_bufs_sub ..,
    binary_bufs_sub .., nullary_bufs_sub .., unary_bufs_sub .., binary_bufs_sub .., unary_bufs_sub ..⟩
theorem opsCut_sub : (opsCut : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..⟩
theorem opsLog_sub : (opsLog : List (HloOp τ sig (Elt F))).Forall fun op => op.bufs ⊆ tcRefs τ sig :=
  ⟨unary_bufs_sub .., unary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    unary_bufs_sub ..⟩
theorem opsScore_sub : (opsScore : List (HloOp τ sig (Elt F))).Forall fun op => op.bufs ⊆ tcRefs τ sig :=
  ⟨binary_bufs_sub .., binary_bufs_sub .., unary_bufs_sub .., unary_bufs_sub .., nullary_bufs_sub .., unary_bufs_sub ..,
    binary_bufs_sub .., unary_bufs_sub .., binary_bufs_sub .., binary_bufs_sub ..⟩
theorem opsBest_sub : (opsBest : List (HloOp τ sig (Elt F))).Forall fun op => op.bufs ⊆ tcRefs τ sig :=
  ⟨nullary_bufs_sub .., nullary_bufs_sub .., nullary_bufs_sub .., quaternary_bufs_sub .., quaternary_bufs_sub ..⟩
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem opsOut_sub : (opsOut : List (HloOp τ sig (Elt F))).Forall fun op => op.bufs ⊆ tcRefs τ sig :=
  ⟨reshape_bufs_sub .., unary_bufs_sub ..⟩

theorem ops_sub : (ops : List (HloOp τ sig (Elt F))).Forall fun op => op.bufs ⊆ tcRefs τ sig := by
  simp only [ops, List.forall_append]
  exact ⟨opsIn_sub, opsState_sub, opsCut_sub, opsLog_sub, opsScore_sub, opsBest_sub, opsTake_sub, opsOut_sub⟩

theorem ops_fresh : ∀ op ∈ (ops : List (HloOp τ sig (Elt F))), op.fresh = ∅ := by
  intro _ h; (repeat (cases h with | head => rfl | tail _ h => ?_)); exact nomatch h

end Cert.Proof.Ref

end
-- ==== Proof.RefStages.lean ====
/-
  What each stage of the reference computes, as a function of what the stages before it left.
-/
module

public import proofs.«01_k».proof.Proof.RefRun

@[expose] public section

set_option maxRecDepth 32768

noncomputable section

namespace Cert.Proof.Ref

open Cert.ReferenceIdeal Cert.ReferenceIdeal.Gen
open Idealize.ShloMosaic Idealize.ShloMosaic.TcCoe Idealize.ShloMosaic.StableHlo Idealize.SL.Sem Idealize.ShloMosaic.Tactic

variable {F : FTy → Type} [FloatOps F]

/-! ## The stages as functions of arrays -/

/-- An argument of eight channels, one row of channels per pixel. -/
def rows8 (X : Vec F S4x8x1x256x256 .f32) : Vec F S262144x8 .f32 :=
  shapeCast S262144x8 (transpose S4x256x256x8 [0, 2, 3, 1] (shapeCast S4x8x256x256 X shapeCasts_S4x8x1x256x256_S4x8x256x256)
    transposes_S4x8x256x256_S4x256x256x8_0_2_3_1) shapeCasts_S4x256x256x8_S262144x8
/-- The same of four channels. -/
def rows4 (Y : Vec F S4x4x1x256x256 .f32) : Vec F S262144x4 .f32 :=
  shapeCast S262144x4 (transpose S4x256x256x4 [0, 2, 3, 1] (shapeCast S4x4x256x256 Y shapeCasts_S4x4x1x256x256_S4x4x256x256)
    transposes_S4x4x256x256_S4x256x256x4_0_2_3_1) shapeCasts_S4x256x256x4_S262144x4
/-- The probabilities cut to the interval between the two literals. -/
def clip8 (x : Vec F S262144x8 .f32) : Vec F S262144x8 .f32 :=
  minimumf (broadcastInDim S262144x8 ![] bcast_S_S262144x8 (constant S_ .f32 0x3F7FFFEF#32))
    (maximumf (broadcastInDim S262144x8 ![] bcast_S_S262144x8 (constant S_ .f32 0x358637BD#32)) x)
/-- The same of four channels. -/
def clip4 (x : Vec F S262144x4 .f32) : Vec F S262144x4 .f32 :=
  minimumf (broadcastInDim S262144x4 ![] bcast_S_S262144x4 (constant S_ .f32 0x3F7FFFEF#32))
    (maximumf (broadcastInDim S262144x4 ![] bcast_S_S262144x4 (constant S_ .f32 0x358637BD#32)) x)
/-- Bit t of configuration k, as a float. -/
def states : Vec F S256x8 .f32 :=
  sitofp .f32 (andi (Host.shrsi
    (broadcastInDim S256x8 ![0, 1] bcast_S256x1_S256x8_0_1 (broadcastInDim S256x1 ![0] bcast_S256_S256x1_0 (iotaInDim S256 32 0)))
    (broadcastInDim S256x8 ![0, 1] bcast_S1x8_S256x8_0_1 (broadcastInDim S1x8 ![1] bcast_S8_S1x8_1 (iotaInDim S8 32 0))))
    (broadcastInDim S256x8 ![] bcast_S_S256x8 (constantI S_ 32 1#32)))
/-- A column of the edge list, an index below zero counted from the end. -/
def wrap (e : IVec S4 32) : IVec S4x1 32 :=
  broadcastInDim S4x1 ![0] bcast_S4_S4x1_0 (select (cmpi .slt e (broadcastInDim S4 ![] bcast_S_S4 (constantI S_ 32 0#32)))
    (addi e (broadcastInDim S4 ![] bcast_S_S4 (constantI S_ 32 8#32))) e)
def col0 (E : IVec S4x2 32) : IVec S4 32 := shapeCast S4 (extractStridedSlice S4x1 ![0, 0] E slices_S4x2_S4x1_0_0) shapeCasts_S4x1_S4
def col1 (E : IVec S4x2 32) : IVec S4 32 := shapeCast S4 (extractStridedSlice S4x1 ![0, 1] E slices_S4x2_S4x1_0_1) shapeCasts_S4x1_S4
/-- Whether the ends of an edge differ in a configuration, as a float. -/
def cuts (S : Vec F S256x8 .f32) (E : IVec S4x2 32) : Vec F S256x4 .f32 :=
  Host.absf (subf (Host.gather gather_S256x8_S4x1_S256x4_0_1_n_n_1_1_2561 S (wrap (col0 E)))
    (Host.gather gather_S256x8_S4x1_S256x4_0_1_n_n_1_1_2561 S (wrap (col1 E))))
/-- The vertices' part of the score. -/
def scoreV (P : Vec F S262144x8 .f32) (S : Vec F S256x8 .f32) : Vec F S262144x256 .f32 :=
  addf (Host.dotGeneral dot_S262144x8_S8x256_S262144x256_1_0_0_1_n_n none (Host.log P) (transpose S8x256 [1, 0] S transposes_S256x8_S8x256_1_0))
    (Host.dotGeneral dot_S262144x8_S8x256_S262144x256_1_0_0_1_n_n none (Host.log1p (Host.negf P))
      (transpose S8x256 [1, 0] (subf (broadcastInDim S256x8 ![] bcast_S_S256x8 (constant S_ .f32 0x3F800000#32)) S) transposes_S256x8_S8x256_1_0))
/-- The score: the vertices' part and the edges'. -/
def score (A : Vec F S262144x256 .f32) (L C : Vec F S262144x4 .f32) (Dt : Vec F S4x256 .f32) (D : Vec F S256x4 .f32) : Vec F S262144x256 .f32 :=
  addf (addf A (Host.dotGeneral dot_S262144x4_S4x256_S262144x256_1_0_0_1_n_n none L Dt))
    (Host.dotGeneral dot_S262144x4_S4x256_S262144x256_1_0_0_1_n_n none (Host.log1p (Host.negf C))
      (transpose S4x256 [1, 0] (subf (broadcastInDim S256x4 ![] bcast_S_S256x4 (constant S_ .f32 0x3F800000#32)) D) transposes_S256x4_S4x256_1_0))
/-- The first configuration of largest score. -/
def best (s : Vec F S262144x256 .f32) : IVec S262144 32 := fun j =>
  (Host.argReduce reducer_argmax_f32_i32 s (iotaInDim S262144x256 32 1) (constant S_ .f32 0xFF800000#32) (constantI S_ 32 0#32)
    reducesTo_S262144x256_S262144_d1 h_S_ j).2
/-- The row's index, one below zero counted from the end. -/
def rowIx (b : IVec S262144 32) : IVec S262144x1 32 :=
  broadcastInDim S262144x1 ![0] bcast_S262144_S262144x1_0
    (select (cmpi .slt b (broadcastInDim S262144 ![] bcast_S_S262144 (constantI S_ 32 0#32)))
      (addi b (broadcastInDim S262144 ![] bcast_S_S262144 (constantI S_ 32 256#32))) b)
/-- Whether the index is a row of the table. -/
def inside (i : IVec S262144x1 32) : IVec S262144 1 :=
  Host.reduce IntOp.andi (andi (cmpi .sge i (broadcastInDim S262144x1 ![] bcast_S_S262144x1 (constantI S_ 32 0#32)))
      (cmpi .sle i (broadcastInDim S262144x1 ![0, 1] bcast_S1x1_S262144x1_0_1 (broadcastInDim S1x1 ![1] bcast_S1_S1x1_1 (constantI S1 32 255#32)))))
    (constantI S_ 1 1#1) reducesTo_S262144x1_S262144_d1 h_S_
/-- The table's rows at the indices. -/
def taken (S : Vec F S256x8 .f32) (b : IVec S262144 32) : Vec F S262144x8 .f32 :=
  select (broadcastInDim S262144x8 ![0] bcast_S262144_S262144x8_0 (inside (rowIx b)))
    (Host.gather gather_S256x8_S262144x1_S262144x8_1_0_n_n_0_1_18 S (rowIx b))
    (broadcastInDim S262144x8 ![] bcast_S_S262144x8 (constant S_ .f32 0x7FC00000#32))
/-- The rows laid out as the first argument. -/
def laid (x : Vec F S262144x8 .f32) : Vec F S4x8x1x256x256 .f32 :=
  transpose S4x8x1x256x256 [0, 3, 4, 1, 2] (shapeCast S4x256x256x8x1 x shapeCasts_S262144x8_S4x256x256x8x1)
    transposes_S4x256x256x8x1_S4x8x1x256x256_0_3_4_1_2

/-- The scores of the 256 configurations at every pixel. -/
def scores (X : Vec F S4x8x1x256x256 .f32) (Y : Vec F S4x4x1x256x256 .f32) (E : IVec S4x2 32) : Vec F S262144x256 .f32 :=
  score (scoreV (clip8 (rows8 X)) states) (Host.log (clip4 (rows4 Y))) (clip4 (rows4 Y))
    (transpose S4x256 [1, 0] (cuts states E) transposes_S256x4_S4x256_1_0) (cuts states E)
/-- What the reference computes. -/
def refVal (X : Vec F S4x8x1x256x256 .f32) (Y : Vec F S4x4x1x256x256 .f32) (E : IVec S4x2 32) : Vec F S4x8x1x256x256 .f32 :=
  laid (taken states (best (scores X Y E)))

/-! ## What each stage leaves -/

variable (V : Valuation τ sig (Elt F))

theorem in_v6 : after opsIn V (main_v6 : DevRef τ sig) = clip8 (rows8 (V (main_arg0 : DevRef τ sig))) := by after_results_simp; rfl
theorem in_v7 : after opsIn V (main_v7 : DevRef τ sig) = clip4 (rows4 (V (main_arg1 : DevRef τ sig))) := by after_results_simp; rfl
theorem state_v17 : after opsState V (main_v17 : DevRef τ sig) = states := by after_results_simp; rfl
theorem cut_v37 : after opsCut V (main_v37 : DevRef τ sig) = cuts (V (main_v17 : DevRef τ sig)) (V (main_arg2 : DevRef τ sig)) := by
  after_results_simp; rfl
theorem log_v47 : after opsLog V (main_v47 : DevRef τ sig) = scoreV (V (main_v6 : DevRef τ sig)) (V (main_v17 : DevRef τ sig)) := by
  after_results_simp; rfl
theorem log_v48 : after opsLog V (main_v48 : DevRef τ sig) = Host.log (s := S262144x4) (φ := .f32) (V (main_v7 : DevRef τ sig)) := by
  after_results_simp
theorem log_v49 : after opsLog V (main_v49 : DevRef τ sig)
    = transpose (s := S256x4) S4x256 [1, 0] (V (main_v37 : DevRef τ sig)) transposes_S256x4_S4x256_1_0 := by after_results_simp
theorem score_v58 : after opsScore V (main_v58 : DevRef τ sig) = score (V (main_v47 : DevRef τ sig)) (V (main_v48 : DevRef τ sig))
    (V (main_v7 : DevRef τ sig)) (V (main_v49 : DevRef τ sig)) (V (main_v37 : DevRef τ sig)) := by after_results_simp; rfl
theorem best_v59 : after opsBest V (main_v59 : DevRef τ sig) = best (V (main_v58 : DevRef τ sig)) := by after_results_simp; rfl
/-- A function of two buffers' contents, read through their typed references, is the function. -/
theorem read_inside (f : IVec S262144x1 1 → IVec S_ 1 → IVec S262144 1) (a : IVec S262144x1 1) (b : IVec S_ 1) :
    (TRef.of main_call3_v12 : TRef sig ⟨S262144, .i1⟩).toBuf (Val := Elt F) (f ((TRef.of main_call3_v11 : TRef sig ⟨S262144x1, .i1⟩).ofBuf (Val := Elt F) a)
      ((TRef.of main_call3_c_3 : TRef sig ⟨S_, .i1⟩).ofBuf (Val := Elt F) b)) = f a b := rfl
theorem take_v60 : after opsTake V (main_v60 : DevRef τ sig) = taken (V (main_v17 : DevRef τ sig)) (V (main_v59 : DevRef τ sig)) := by
  after_results_simp
  rw [read_inside (fun x v => Host.reduce IntOp.andi x v reducesTo_S262144x1_S262144_d1 h_S_)]
  rfl
theorem out_v62 : after opsOut V (main_v62 : DevRef τ sig) = laid (V (main_v60 : DevRef τ sig)) := by after_results_simp; rfl

/-! ## What each stage keeps -/

theorem keepIn_arg0 : after opsIn V (main_arg0 : DevRef τ sig) = V (main_arg0 : DevRef τ sig) := by after_results_simp
theorem keepIn_arg1 : after opsIn V (main_arg1 : DevRef τ sig) = V (main_arg1 : DevRef τ sig) := by after_results_simp
theorem keepIn_arg2 : after opsIn V (main_arg2 : DevRef τ sig) = V (main_arg2 : DevRef τ sig) := by after_results_simp
theorem keepState_arg0 : after opsState V (main_arg0 : DevRef τ sig) = V (main_arg0 : DevRef τ sig) := by after_results_simp
theorem keepState_arg1 : after opsState V (main_arg1 : DevRef τ sig) = V (main_arg1 : DevRef τ sig) := by after_results_simp
theorem keepState_arg2 : after opsState V (main_arg2 : DevRef τ sig) = V (main_arg2 : DevRef τ sig) := by after_results_simp
theorem keepState_v6 : after opsState V (main_v6 : DevRef τ sig) = V (main_v6 : DevRef τ sig) := by after_results_simp
theorem keepState_v7 : after opsState V (main_v7 : DevRef τ sig) = V (main_v7 : DevRef τ sig) := by after_results_simp
theorem keepCut_arg0 : after opsCut V (main_arg0 : DevRef τ sig) = V (main_arg0 : DevRef τ sig) := by after_results_simp
theorem keepCut_arg1 : after opsCut V (main_arg1 : DevRef τ sig) = V (main_arg1 : DevRef τ sig) := by after_results_simp
theorem keepCut_arg2 : after opsCut V (main_arg2 : DevRef τ sig) = V (main_arg2 : DevRef τ sig) := by after_results_simp
theorem keepCut_v17 : after opsCut V (main_v17 : DevRef τ sig) = V (main_v17 : DevRef τ sig) := by after_results_simp
theorem keepCut_v6 : after opsCut V (main_v6 : DevRef τ sig) = V (main_v6 : DevRef τ sig) := by after_results_simp
theorem keepCut_v7 : after opsCut V (main_v7 : DevRef τ sig) = V (main_v7 : DevRef τ sig) := by after_results_simp
theorem keepLog_arg0 : after opsLog V (main_arg0 : DevRef τ sig) = V (main_arg0 : DevRef τ sig) := by after_results_simp
theorem keepLog_arg1 : after opsLog V (main_arg1 : DevRef τ sig) = V (main_arg1 : DevRef τ sig) := by after_results_simp
theorem keepLog_arg2 : after opsLog V (main_arg2 : DevRef τ sig) = V (main_arg2 : DevRef τ sig) := by after_results_simp
theorem keepLog_v17 : after opsLog V (main_v17 : DevRef τ sig) = V (main_v17 : DevRef τ sig) := by after_results_simp
theorem keepLog_v37 : after opsLog V (main_v37 : DevRef τ sig) = V (main_v37 : DevRef τ sig) := by after_results_simp
theorem keepLog_v7 : after opsLog V (main_v7 : DevRef τ sig) = V (main_v7 : DevRef τ sig) := by after_results_simp
theorem keepScore_arg0 : after opsScore V (main_arg0 : DevRef τ sig) = V (main_arg0 : DevRef τ sig) := by after_results_simp
theorem keepScore_arg1 : after opsScore V (main_arg1 : DevRef τ sig) = V (main_arg1 : DevRef τ sig) := by after_results_simp
theorem keepScore_arg2 : after opsScore V (main_arg2 : DevRef τ sig) = V (main_arg2 : DevRef τ sig) := by after_results_simp
theorem keepScore_v17 : after opsScore V (main_v17 : DevRef τ sig) = V (main_v17 : DevRef τ sig) := by after_results_simp
theorem keepBest_arg0 : after opsBest V (main_arg0 : DevRef τ sig) = V (main_arg0 : DevRef τ sig) := by after_results_simp
theorem keepBest_arg1 : after opsBest V (main_arg1 : DevRef τ sig) = V (main_arg1 : DevRef τ sig) := by after_results_simp
theorem keepBest_arg2 : after opsBest V (main_arg2 : DevRef τ sig) = V (main_arg2 : DevRef τ sig) := by after_results_simp
theorem keepBest_v17 : after opsBest V (main_v17 : DevRef τ sig) = V (main_v17 : DevRef τ sig) := by after_results_simp
theorem keepTake_arg0 : after opsTake V (main_arg0 : DevRef τ sig) = V (main_arg0 : DevRef τ sig) := by after_results_simp
theorem keepTake_arg1 : after opsTake V (main_arg1 : DevRef τ sig) = V (main_arg1 : DevRef τ sig) := by after_results_simp
theorem keepTake_arg2 : after opsTake V (main_arg2 : DevRef τ sig) = V (main_arg2 : DevRef τ sig) := by after_results_simp
theorem keepOut_arg0 : after opsOut V (main_arg0 : DevRef τ sig) = V (main_arg0 : DevRef τ sig) := by after_results_simp
theorem keepOut_arg1 : after opsOut V (main_arg1 : DevRef τ sig) = V (main_arg1 : DevRef τ sig) := by after_results_simp
theorem keepOut_arg2 : after opsOut V (main_arg2 : DevRef τ sig) = V (main_arg2 : DevRef τ sig) := by after_results_simp

theorem after_ops_v62 : after ops V (main_v62 : DevRef τ sig)
    = refVal (V (main_arg0 : DevRef τ sig)) (V (main_arg1 : DevRef τ sig)) (V (main_arg2 : DevRef τ sig)) := by
  simp only [ops, after_append]
  rw [out_v62, take_v60, best_v59, score_v58, keepBest_v17, keepScore_v17, keepLog_v17, log_v47, log_v48, log_v49, keepLog_v7, keepLog_v37,
    cut_v37, keepCut_v6, keepCut_v7, keepCut_v17, state_v17, keepState_v6, keepState_v7, keepState_arg2, in_v6, in_v7, keepIn_arg2]
  rfl
theorem after_ops_arg0 : after ops V (main_arg0 : DevRef τ sig) = V (main_arg0 : DevRef τ sig) := by
  simp only [ops, after_append]
  rw [keepOut_arg0, keepTake_arg0, keepBest_arg0, keepScore_arg0, keepLog_arg0, keepCut_arg0, keepState_arg0, keepIn_arg0]
theorem after_ops_arg1 : after ops V (main_arg1 : DevRef τ sig) = V (main_arg1 : DevRef τ sig) := by
  simp only [ops, after_append]
  rw [keepOut_arg1, keepTake_arg1, keepBest_arg1, keepScore_arg1, keepLog_arg1, keepCut_arg1, keepState_arg1, keepIn_arg1]
theorem after_ops_arg2 : after ops V (main_arg2 : DevRef τ sig) = V (main_arg2 : DevRef τ sig) := by
  simp only [ops, after_append]
  rw [keepOut_arg2, keepTake_arg2, keepBest_arg2, keepScore_arg2, keepLog_arg2, keepCut_arg2, keepState_arg2, keepIn_arg2]

/-- THE REFERENCE'S RUN: it terminates, its result is `refVal` of its arguments, which are unchanged, and every semaphore
    counter is zero. -/
theorem run_ref (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_v62)
            = refVal (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => ⟨(h c main_v62).trans (after_ops_v62 _), (h c main_arg0).trans (after_ops_arg0 _),
      (h c main_arg1).trans (after_ops_arg1 _), (h c main_arg2).trans (after_ops_arg2 _)⟩, sem_eq_zero_of_no_sems rfl _⟩)
    (run_seq scopedRefs_eq scopedSems_eq defs main (fun _ => ops) main_eq (fun _ => ops_sub) m g (fun _ => ops_fresh))

end Cert.Proof.Ref

end
-- ==== Proof.ArgMax.lean ====
module

public import proofs.«01_k».proof.Proof.RefStages
public import Idealize.ShloMosaic.Lib.Pointwise

/-! The reference's arg-max at one pixel: the fold over the 256 configurations ends at the first one of largest score. -/

@[expose] public section
set_option maxRecDepth 32768
noncomputable section
namespace Cert.Proof.Ref
open Cert.ReferenceIdeal Cert.ReferenceIdeal.Gen
open Idealize.ShloMosaic

/-- `q` is the pair `p`, or it loses against it: its score is smaller, or equal at a later configuration. -/
def Loses (p q : Ideal .f32 × BitVec 32) : Prop :=
  q = p ∨ (show EReal from q.1) < (show EReal from p.1) ∨ (q.1 = p.1 ∧ p.2.toInt < q.2.toInt)

/-- A set bit absorbs another. -/
theorem one_or_bit (b : BitVec 1) : 1#1 ||| b = 1#1 := by revert b; decide

/-- The reducer keeps its left argument against one that loses. -/
theorem red_left (p q : Ideal .f32 × BitVec 32) (h : Loses p q) : reducer_argmax_f32_i32 p q = p := by
  obtain ⟨p1, p2⟩ := p
  obtain ⟨q1, q2⟩ := q
  rcases h with h | h | ⟨h, h'⟩
  · rw [h]
    unfold reducer_argmax_f32_i32
    simp [Ideal.cmpf_def, Ideal.cmp, Scalar.select]
  · replace h : (q1 : EReal) < p1 := h
    unfold reducer_argmax_f32_i32
    simp [Ideal.cmpf_def, Ideal.cmp, Scalar.select, h, IntOp.ori, one_or_bit]
  · replace h : q1 = p1 := h
    subst h
    unfold reducer_argmax_f32_i32
    simp_all [Ideal.cmpf_def, Ideal.cmp, Scalar.select, IntOp.ori, IntOp.andi, IntOp.cmpi, BitVec.slt]

/-- The reducer keeps its right argument against one that loses. -/
theorem red_right (p q : Ideal .f32 × BitVec 32) (h : Loses p q) : reducer_argmax_f32_i32 q p = p := by
  obtain ⟨p1, p2⟩ := p
  obtain ⟨q1, q2⟩ := q
  rcases h with h | h | ⟨h, h'⟩
  · rw [h]
    unfold reducer_argmax_f32_i32
    simp [Ideal.cmpf_def, Ideal.cmp, Scalar.select]
  · replace h : (q1 : EReal) < p1 := h
    have h1 : ¬ (p1 : EReal) < q1 := not_lt.mpr h.le
    have h2 : ¬ (q1 : EReal) = p1 := h.ne
    unfold reducer_argmax_f32_i32
    simp [Ideal.cmpf_def, Ideal.cmp, Scalar.select, h1, h2, IntOp.ori, IntOp.andi]
  · replace h : q1 = p1 := h
    have h1 : ¬ q2.toInt < p2.toInt := not_lt.mpr (le_of_lt h')
    subst h
    unfold reducer_argmax_f32_i32
    simp [Ideal.cmpf_def, Ideal.cmp, Scalar.select, IntOp.ori, IntOp.andi, IntOp.cmpi, BitVec.slt, h1]

/-- The reducer returns one of its two arguments. -/
theorem red_or (a b : Ideal .f32 × BitVec 32) : reducer_argmax_f32_i32 a b = a ∨ reducer_argmax_f32_i32 a b = b := by
  rcases lt_trichotomy (show EReal from a.1) (show EReal from b.1) with h | h | h
  · exact .inr (red_right b a (.inr (.inl h)))
  · rcases lt_trichotomy a.2.toInt b.2.toInt with h' | h' | h'
    · exact .inl (red_left a b (.inr (.inr ⟨h.symm, h'⟩)))
    · exact .inl (red_left a b (.inl (Prod.ext h.symm (BitVec.eq_of_toInt_eq h'.symm))))
    · exact .inr (red_right b a (.inr (.inr ⟨h, h'⟩)))
  · exact .inl (red_left a b (.inr (.inl h)))

/-- The fold over pairs that all lose against one of them ends at it. -/
theorem fold_best (p : Ideal .f32 × BitVec 32) (l : List (Ideal .f32 × BitVec 32)) (hl : ∀ q ∈ l, Loses p q) :
    ∀ acc, Loses p acc → acc = p ∨ p ∈ l → l.foldl reducer_argmax_f32_i32 acc = p := by
  induction l with
  | nil => intro acc _ h; simpa using h
  | cons q l ih =>
    intro acc ha h
    have hq := hl q List.mem_cons_self
    refine ih (fun r hr => hl r (List.mem_cons_of_mem _ hr)) _ ?_ ?_
    · rcases red_or acc q with h' | h' <;> rw [h'] <;> assumption
    · rcases h with h | h
      · exact .inl (by rw [h]; exact red_left p q hq)
      · rcases List.mem_cons.mp h with h | h
        · exact .inl (by rw [← h]; exact red_right p acc ha)
        · exact .inr h

/-- The arg-max over the second axis of a matrix is the entry against which all of its row lose. -/
theorem argmax_at {m n : ℕ} (x : FVec Ideal ⟨2, ![m, n]⟩ .f32) (y : IVec ⟨2, ![m, n]⟩ 32) (u : S_.Idx → Ideal .f32) (v : IVec S_ 32)
    (h : Shape.ReducesTo ⟨2, ![m, n]⟩ [1] ⟨1, ![m]⟩) (hu : 0 < S_.numel) (j : Fin m) (K : Fin n)
    (h0 : Loses (x (ix2 j K), y (ix2 j K)) (u (Shape.Idx.first hu), v (Shape.Idx.first hu)))
    (hl : ∀ k, Loses (x (ix2 j K), y (ix2 j K)) (x (ix2 j k), y (ix2 j k))) :
    Host.argReduce reducer_argmax_f32_i32 x y u v h hu (ix1 j) = (x (ix2 j K), y (ix2 j K)) := by
  have hd : ∀ i : (⟨2, ![m, n]⟩ : Shape).Idx, h.drop i = ix1 j ↔ i 0 = j := by
    intro i
    have e : (h.drop i 0 : Nat) = i 0 := h.drop_apply_val_of_eq i 0 0 Nat.zero_lt_one rfl
    constructor
    · intro h'
      rw [h'] at e
      exact Fin.ext e.symm
    · intro h'
      rw [eq_ix1 (h.drop i)]
      exact congrArg ix1 (Fin.ext (e.trans (congrArg Fin.val h')))
  rw [Ideal.argReduce_eq_reduce2, Host.reduce2_eq_foldl_fiber]
  refine fold_best _ _ ?_ _ h0 (.inr ?_)
  · intro q hq
    obtain ⟨a, ha, rfl⟩ := List.mem_map.mp hq
    have ha := (hd _).mp (of_decide_eq_true (List.mem_filter.mp ha).2)
    generalize (Shape.rowMajor ⟨2, ![m, n]⟩).symm a = i at ha ⊢
    rw [eq_ix2 i, ha]
    exact hl _
  · refine List.mem_map.mpr ⟨Shape.rowMajor ⟨2, ![m, n]⟩ (ix2 j K), List.mem_filter.mpr ⟨List.mem_finRange _, ?_⟩, ?_⟩
    · rw [Equiv.symm_apply_apply]
      exact decide_eq_true ((hd _).mpr rfl)
    · rw [Equiv.symm_apply_apply]

end Cert.Proof.Ref
end
end
-- ==== Proof.FirstBest.lean ====
module

public import Idealize.ShloMosaic.Lib.Pointwise

/-! The best configuration pair by pair: a configuration of eight bits is four base-4 digits, its score is a sum of four
    terms, one a digit, and taking in each pair the first digit of largest term gives the first configuration of largest
    score. Facts on real numbers only. -/

@[expose] public section
noncomputable section
namespace Cert.Proof.Best

/-- The configuration whose digits are `d`. -/
def join (d : Fin 4 → ℕ) : ℕ := d 0 + 4 * d 1 + 16 * d 2 + 64 * d 3

/-- Digit `n` of a configuration. -/
def digit (k : ℕ) (n : Fin 4) : ℕ := k / 4 ^ n.val % 4

/-- A digit is below 4. -/
theorem digit_lt (k : ℕ) (n : Fin 4) : digit k n < 4 := Nat.mod_lt _ (by decide)

/-- Four digits make a configuration below 256. -/
theorem join_lt {d : Fin 4 → ℕ} (h : ∀ n, d n < 4) : join d < 256 := by
  have := h 0; have := h 1; have := h 2; have := h 3
  unfold join; omega

/-- The digits of the configuration whose digits are `d`. -/
theorem digit_join {d : Fin 4 → ℕ} (h : ∀ n, d n < 4) (n : Fin 4) : digit (join d) n = d n := by
  have := h 0; have := h 1; have := h 2; have := h 3
  unfold digit join
  fin_cases n <;> simp <;> omega

/-- A configuration whose digits are all at least `d` is at least the one of digits `d`. -/
theorem join_le {d : Fin 4 → ℕ} {k : ℕ} (h : ∀ n, d n ≤ digit k n) : join d ≤ k := by
  have h0 := h 0; have h1 := h 1; have h2 := h 2; have h3 := h 3
  simp [digit] at h0 h1 h2 h3
  unfold join; omega

/-- Digits that are each the first best give the first best configuration. -/
theorem first_best (g : Fin 4 → ℕ → ℝ) (d : Fin 4 → ℕ) (hmax : ∀ n e, e < 4 → g n e ≤ g n (d n))
    (hfirst : ∀ n e, e < d n → g n e < g n (d n)) (k : ℕ) :
    ∑ n, g n (digit k n) < ∑ n, g n (d n) ∨ (∑ n, g n (digit k n) = ∑ n, g n (d n) ∧ join d ≤ k) := by
  by_cases h : ∀ n, d n ≤ digit k n
  · rcases lt_or_eq_of_le (Finset.sum_le_sum fun n (_ : n ∈ Finset.univ) => hmax n _ (digit_lt k n)) with h1 | h1
    · exact .inl h1
    · exact .inr ⟨h1, join_le h⟩
  · push Not at h
    obtain ⟨n, hn⟩ := h
    exact .inl (Finset.sum_lt_sum (fun n _ => hmax n _ (digit_lt k n)) ⟨n, Finset.mem_univ n, hfirst n _ hn⟩)

/-- Bit `t` of a configuration, as a real number. -/
def bit (k t : ℕ) : ℝ := if k / 2 ^ t % 2 = 1 then 1 else 0

/-- The low bit of a digit is the bit of the pair's first node. -/
theorem bit_low (k : ℕ) (n : Fin 4) : bit (digit k n) 0 = bit k (2 * n.val) := by
  unfold bit digit
  congr 1
  fin_cases n <;> simp <;> omega

/-- The high bit of a digit is the bit of the pair's second node. -/
theorem bit_high (k : ℕ) (n : Fin 4) : bit (digit k n) 1 = bit k (2 * n.val + 1) := by
  unfold bit digit
  congr 1
  fin_cases n <;> simp <;> omega

/-- What one pair adds to the score at digit `e`: its two nodes' and its edge's log-probabilities. -/
def term (a1 a0 b1 b0 c1 c0 : ℝ) (e : ℕ) : ℝ :=
  a1 * bit e 0 + a0 * (1 - bit e 0) + (b1 * bit e 1 + b0 * (1 - bit e 1))
    + (c1 * |bit e 0 - bit e 1| + c0 * (1 - |bit e 0 - bit e 1|))

/-- The digit the comparisons of the relative scores choose. -/
def pick (la lb lc : ℝ) : ℕ :=
  if max (la + lc) 0 < max (lb + lc) (la + lb) then (if lb + lc < la + lb then 3 else 2)
  else if 0 < la + lc then 1 else 0

/-- The digit chosen is below 4. -/
theorem pick_lt (la lb lc : ℝ) : pick la lb lc < 4 := by
  unfold pick; split_ifs <;> omega

/-- The term of each of the four digits. -/
theorem term_zero (a1 a0 b1 b0 c1 c0 : ℝ) : term a1 a0 b1 b0 c1 c0 0 = a0 + b0 + c0 := by simp [term, bit]
theorem term_one (a1 a0 b1 b0 c1 c0 : ℝ) : term a1 a0 b1 b0 c1 c0 1 = a1 + b0 + c1 := by simp [term, bit]
theorem term_two (a1 a0 b1 b0 c1 c0 : ℝ) : term a1 a0 b1 b0 c1 c0 2 = a0 + b1 + c1 := by simp [term, bit]
theorem term_three (a1 a0 b1 b0 c1 c0 : ℝ) : term a1 a0 b1 b0 c1 c0 3 = a1 + b1 + c0 := by simp [term, bit]

/-- No digit has a larger term than the one chosen. -/
theorem pick_max (a1 a0 b1 b0 c1 c0 : ℝ) (e : ℕ) (he : e < 4) :
    term a1 a0 b1 b0 c1 c0 e ≤ term a1 a0 b1 b0 c1 c0 (pick (a1 - a0) (b1 - b0) (c1 - c0)) := by
  unfold pick
  by_cases h1 : max (a1 - a0 + (c1 - c0)) 0 < max (b1 - b0 + (c1 - c0)) (a1 - a0 + (b1 - b0))
  · rw [if_pos h1]
    simp only [lt_max_iff, max_lt_iff] at h1
    rcases h1 with ⟨h1, h3⟩ | ⟨h1, h3⟩ <;> split_ifs with h2 <;> interval_cases e <;>
      simp only [term_zero, term_one, term_two, term_three] <;> linarith
  · rw [if_neg h1]
    rw [not_lt, max_le_iff, le_max_iff, le_max_iff] at h1
    rcases h1 with ⟨h1, h3⟩
    rcases h1 with h1 | h1 <;> rcases h3 with h3 | h3 <;> split_ifs with h2 <;> interval_cases e <;>
      simp only [term_zero, term_one, term_two, term_three] <;> linarith

/-- Every digit before the one chosen has a smaller term. -/
theorem pick_first (a1 a0 b1 b0 c1 c0 : ℝ) (e : ℕ) (he : e < pick (a1 - a0) (b1 - b0) (c1 - c0)) :
    term a1 a0 b1 b0 c1 c0 e < term a1 a0 b1 b0 c1 c0 (pick (a1 - a0) (b1 - b0) (c1 - c0)) := by
  unfold pick at he ⊢
  by_cases h1 : max (a1 - a0 + (c1 - c0)) 0 < max (b1 - b0 + (c1 - c0)) (a1 - a0 + (b1 - b0))
  · rw [if_pos h1] at he ⊢
    simp only [lt_max_iff, max_lt_iff] at h1
    rcases h1 with ⟨h1, h3⟩ | ⟨h1, h3⟩ <;> split_ifs at he ⊢ with h2 <;> interval_cases e <;>
      simp only [term_zero, term_one, term_two, term_three] <;> linarith
  · rw [if_neg h1] at he ⊢
    split_ifs at he ⊢ with h2
    · interval_cases e
      simp only [term_zero, term_one]
      linarith
    · omega

/-- The score of a configuration, in the reference's order of summation. -/
def score (u1 u0 : Fin 8 → ℝ) (c1 c0 : Fin 4 → ℝ) (k : ℕ) : ℝ :=
  ∑ t, u1 t * bit k t.val + ∑ t, u0 t * (1 - bit k t.val)
    + ∑ n : Fin 4, c1 n * |bit k (2 * n.val) - bit k (2 * n.val + 1)|
    + ∑ n : Fin 4, c0 n * (1 - |bit k (2 * n.val) - bit k (2 * n.val + 1)|)

/-- The first and the second node of a pair. -/
def fst (n : Fin 4) : Fin 8 := ⟨2 * n.val, by omega⟩
def snd (n : Fin 4) : Fin 8 := ⟨2 * n.val + 1, by omega⟩

/-- The score is the sum of the four pairs' terms. -/
theorem score_eq (u1 u0 : Fin 8 → ℝ) (c1 c0 : Fin 4 → ℝ) (k : ℕ) :
    score u1 u0 c1 c0 k = ∑ n : Fin 4, term (u1 (fst n)) (u0 (fst n)) (u1 (snd n)) (u0 (snd n)) (c1 n) (c0 n) (digit k n) := by
  simp only [score, term, bit_low, bit_high]
  simp only [Fin.sum_univ_eight, Fin.sum_univ_four]
  simp only [fst, snd, Fin.isValue, Fin.val_zero, Fin.val_one, Fin.val_two]
  simp
  ring

/-- The configuration the comparisons choose, pair by pair. -/
def choice (u1 u0 : Fin 8 → ℝ) (c1 c0 : Fin 4 → ℝ) (n : Fin 4) : ℕ :=
  pick (u1 (fst n) - u0 (fst n)) (u1 (snd n) - u0 (snd n)) (c1 n - c0 n)

/-- Its digits are below 4. -/
theorem choice_lt (u1 u0 : Fin 8 → ℝ) (c1 c0 : Fin 4 → ℝ) (n : Fin 4) : choice u1 u0 c1 c0 n < 4 := pick_lt _ _ _

/-- It is the first of largest score. -/
theorem choice_best (u1 u0 : Fin 8 → ℝ) (c1 c0 : Fin 4 → ℝ) (k : ℕ) :
    score u1 u0 c1 c0 k < score u1 u0 c1 c0 (join (choice u1 u0 c1 c0))
      ∨ (score u1 u0 c1 c0 k = score u1 u0 c1 c0 (join (choice u1 u0 c1 c0)) ∧ join (choice u1 u0 c1 c0) ≤ k) := by
  have h := first_best (fun n => term (u1 (fst n)) (u0 (fst n)) (u1 (snd n)) (u0 (snd n)) (c1 n) (c0 n)) (choice u1 u0 c1 c0)
    (fun n e he => pick_max _ _ _ _ _ _ e he) (fun n e he => pick_first _ _ _ _ _ _ e he) k
  simp only [score_eq, digit_join (choice_lt u1 u0 c1 c0)]
  exact h

end Cert.Proof.Best
end
end
-- ==== Proof.RefAt.lean ====
module

public import proofs.«01_k».proof.Proof.ArgMax
public import proofs.«01_k».proof.Proof.FirstBest
public import proofs.«01_k».proof.Proof.Gen.Pre_edges_pair_up

/-! The clipped probabilities' logarithms, the table of configurations and the edges, at the exact values. -/

@[expose] public section
set_option maxRecDepth 32768
noncomputable section
namespace Cert.Proof.Ref
open Cert.ReferenceIdeal Cert.ReferenceIdeal.Gen
open Idealize.ShloMosaic
open Cert.Proof.Best (bit)

/-! ## The clipped probabilities and their logarithms -/

/-- A value clipped between the two literals. -/
def clipE (x : EReal) : EReal := min (Ideal.ofBits .f32 0x3F7FFFEF#32) (max (Ideal.ofBits .f32 0x358637BD#32) x)

/-- The upper literal, just below 1. -/
theorem hi_eq : Ideal.ofBits .f32 0x3F7FFFEF#32 = (((16777199 : ℝ) / 16777216 : ℝ) : EReal) := by
  simp [Ideal.ofBits, Ideal.ieee]
  rw [← EReal.coe_mul]
  norm_num
/-- The lower literal, just above 0. -/
theorem lo_eq : Ideal.ofBits .f32 0x358637BD#32 = (((8796093 : ℝ) / 8796093022208 : ℝ) : EReal) := by
  simp [Ideal.ofBits, Ideal.ieee]
  rw [← EReal.coe_mul]
  norm_num

/-- Maximum and minimum of real numbers among the extended ones. -/
theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- A clipped value is a real number strictly between 0 and 1. -/
theorem clipE_real (x : EReal) : ∃ r : ℝ, clipE x = (r : EReal) ∧ 0 < r ∧ r < 1 := by
  unfold clipE
  rw [hi_eq, lo_eq]
  induction x using EReal.rec with
  | bot => exact ⟨_, by rw [max_eq_left bot_le, ← coe_min], by norm_num, by norm_num⟩
  | top => exact ⟨_, by rw [max_eq_right le_top, min_eq_left le_top], by norm_num, by norm_num⟩
  | coe r =>
    refine ⟨_, by rw [← coe_max, ← coe_min], ?_, ?_⟩
    · exact lt_min (by norm_num) (lt_max_of_lt_left (by norm_num))
    · exact min_lt_of_left_lt (by norm_num)

/-- The logarithms of a clipped value and of its complement. -/
def l1 (x : EReal) : ℝ := Real.log (clipE x).toReal
def l0 (x : EReal) : ℝ := Real.log (1 - (clipE x).toReal)

/-- The logarithm of a clipped value is a real number. -/
theorem log_clip (x : EReal) : Ideal.log (clipE x) = (l1 x : EReal) := by
  obtain ⟨r, h, h0, h1⟩ := clipE_real x
  unfold l1
  rw [h, EReal.toReal_coe]
  exact if_neg (not_le.mpr h0)
/-- So is the logarithm of its complement, -/
theorem log_one_sub (x : EReal) : Ideal.log (1 - clipE x) = (l0 x : EReal) := by
  obtain ⟨r, h, h0, h1⟩ := clipE_real x
  unfold l0
  rw [h, EReal.toReal_coe, ← EReal.coe_one, ← EReal.coe_sub]
  exact if_neg (not_le.mpr (sub_pos.mpr h1))
/-- also as the reference writes it. -/
theorem log1p_clip (x : EReal) : Ideal.log1p (-clipE x) = (l0 x : EReal) := by
  rw [← log_one_sub]; rfl

/-! ## The table of configurations -/

/-- Bit `t` of `k` on machine words. -/
theorem state_word (k : Fin 256) (t : Fin 8) :
    (IntOp.andi (IntOp.shrsi ArithUnit.host (BitVec.ofNat 32 k.val) (BitVec.ofNat 32 t.val)) 1#32).toInt
      = if k.val / 2 ^ t.val % 2 = 1 then 1 else 0 := by
  revert k t; decide +kernel

/-- The table's entry: bit `t` of configuration `k`. -/
theorem states_at (k : Fin 256) (t : Fin 8) : states (F := Ideal) (ix2 k t) = ((bit k.val t.val : ℝ) : EReal) := by
  pointwise [states]
  show (((IntOp.andi (IntOp.shrsi ArithUnit.host (BitVec.ofNat 32 k.val) (BitVec.ofNat 32 t.val)) 1#32).toInt : ℝ) : EReal) = _
  rw [state_word]
  unfold bit
  split_ifs <;> simp

/-! ## The two gathers -/

/-- The axes of a matrix. -/
theorem two (a : Fin 2) : a = 0 ∨ a = 1 := by
  match a with
  | ⟨0, _⟩ => exact Or.inl rfl
  | ⟨1, _⟩ => exact Or.inr rfl

/-- A column of the table. -/
theorem gather_col (S : Vec Ideal S256x8 .f32) (ix : IVec S4x1 32) (k : Fin 256) (n : Fin 4) (q : Fin 8)
    (hq : (ix (ix2 n 0)).toInt.toNat = q.val) :
    Host.gather gather_S256x8_S4x1_S256x4_0_1_n_n_1_1_2561 S ix (ix2 k n) = S (ix2 k q) := by
  unfold Host.gather
  congr 1
  funext a
  refine Fin.ext ?_
  show gather_S256x8_S4x1_S256x4_0_1_n_n_1_1_2561.start (ix2 k n) ix a
      + gather_S256x8_S4x1_S256x4_0_1_n_n_1_1_2561.batchCoord (ix2 k n) a
      + gather_S256x8_S4x1_S256x4_0_1_n_n_1_1_2561.offCoord (ix2 k n) a = _
  rw [GatherDims.batchCoord_eq_zero _ _ _ List.not_mem_nil]
  rcases two a with rfl | rfl
  · unfold GatherDims.start GatherDims.offCoord
    rw [dif_neg (by decide), dif_pos (by decide)]
    simp only [Nat.zero_add]
    rfl
  · rw [GatherDims.offCoord_eq_zero _ _ _ (fun h => ((GatherDims.mem_sKept _ _).mp h).1 (List.mem_singleton.mpr rfl))]
    unfold GatherDims.start
    rw [dif_pos (by decide)]
    have hsi : gather_S256x8_S4x1_S256x4_0_1_n_n_1_1_2561.siIdx (ix2 k n)
        ⟨List.idxOf (1 : Fin 2) gather_S256x8_S4x1_S256x4_0_1_n_n_1_1_2561.startIndexMap, by decide⟩ = ix2 n 0 := by
      funext b; refine Fin.ext ?_
      match b with
      | ⟨0, _⟩ => rfl
      | ⟨1, _⟩ => rfl
    rw [hsi, hq]
    show min q.val 7 + 0 + 0 = q.val
    omega

/-- A row of the table. -/
theorem gather_row (S : Vec Ideal S256x8 .f32) (ix : IVec S262144x1 32) (j : Fin 262144) (t : Fin 8) (q : Fin 256)
    (hq : (ix (ix2 j 0)).toInt.toNat = q.val) :
    Host.gather gather_S256x8_S262144x1_S262144x8_1_0_n_n_0_1_18 S ix (ix2 j t) = S (ix2 q t) := by
  unfold Host.gather
  congr 1
  funext a
  refine Fin.ext ?_
  show gather_S256x8_S262144x1_S262144x8_1_0_n_n_0_1_18.start (ix2 j t) ix a
      + gather_S256x8_S262144x1_S262144x8_1_0_n_n_0_1_18.batchCoord (ix2 j t) a
      + gather_S256x8_S262144x1_S262144x8_1_0_n_n_0_1_18.offCoord (ix2 j t) a = _
  rw [GatherDims.batchCoord_eq_zero _ _ _ List.not_mem_nil]
  rcases two a with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S256x8_S262144x1_S262144x8_1_0_n_n_0_1_18.startIndexMap from List.mem_singleton.mpr rfl)]
    have hsi : gather_S256x8_S262144x1_S262144x8_1_0_n_n_0_1_18.siIdx (ix2 j t)
        ⟨List.idxOf (0 : Fin 2) gather_S256x8_S262144x1_S262144x8_1_0_n_n_0_1_18.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi, hq]
    show min q.val 255 + 0 + 0 = q.val
    omega
  · unfold GatherDims.start GatherDims.offCoord
    rw [dif_neg (by decide), dif_pos (by decide)]
    simp only [Nat.zero_add]
    rfl

/-! ## The edges -/

/-- The edges pair the nodes up: edge `n` joins nodes `2 n` and `2 n + 1`. -/
def PairUp (E : IVec S4x2 32) : Prop := ∀ (n : Fin 4) (c : Fin 2), E (ix2 n c) = BitVec.ofNat 32 (2 * n.val + c.val)

/-- The precondition says it. -/
theorem pairUp_of_pre (A : Vec Ideal S4x8x1x256x256 .f32) (B : Vec Ideal S4x4x1x256x256 .f32) (E : IVec S4x2 32)
    (h : Cert.Pre_edges_pair_up.fn (F := Ideal) A B E = fun _ => 1#1) : PairUp E := by
  intro n c
  have h := congrFun h (ix2 n c)
  pointwise [Cert.Pre_edges_pair_up.fn] at h
  rw [Nat.mul_comm 2]
  cases hb : E (ix2 n c) == BitVec.ofNat 32 (n.val * 2 + c.val) with
  | true => exact eq_of_beq hb
  | false =>
    have h' : BitVec.ofBool (E (ix2 n c) == BitVec.ofNat 32 (n.val * 2 + c.val)) = 1#1 := h
    rw [hb] at h'
    exact absurd h' (by decide)

/-- A node's number is not negative, so it stays as it is. -/
theorem wrap_word (n : Fin 4) (c : Fin 2) :
    (Scalar.select (IntOp.cmpi CmpIPredicate.slt (BitVec.ofNat 32 (2 * n.val + c.val)) 0#32)
      (IntOp.addi (BitVec.ofNat 32 (2 * n.val + c.val)) 8#32) (BitVec.ofNat 32 (2 * n.val + c.val))).toInt.toNat = 2 * n.val + c.val := by
  revert n c; decide +kernel

/-- The first ends of the edges. -/
theorem wrap_col0 {E : IVec S4x2 32} (h : PairUp E) (n : Fin 4) : (wrap (col0 E) (ix2 n 0)).toInt.toNat = 2 * n.val := by
  pointwise [wrap, col0]
  rw [h n 0]
  exact wrap_word n 0
/-- The second ends of the edges. -/
theorem wrap_col1 {E : IVec S4x2 32} (h : PairUp E) (n : Fin 4) : (wrap (col1 E) (ix2 n 0)).toInt.toNat = 2 * n.val + 1 := by
  pointwise [wrap, col1]
  rw [h n 1]
  exact wrap_word n 1

/-- The absolute difference at an index. -/
theorem abs_sub_at (A B : FVec Ideal S256x4 .f32) (i : S256x4.Idx) :
    Host.absf (subf A B) i = (max ((A i : EReal) - B i) (-((A i : EReal) - B i)) : EReal) := rfl

/-- Whether the two nodes of pair `n` differ in configuration `k`. -/
theorem cuts_at {E : IVec S4x2 32} (h : PairUp E) (k : Fin 256) (n : Fin 4) :
    cuts (F := Ideal) states E (ix2 k n) = ((|bit k.val (2 * n.val) - bit k.val (2 * n.val + 1)| : ℝ) : EReal) := by
  unfold cuts
  rw [abs_sub_at, gather_col _ _ k n ⟨2 * n.val, by omega⟩ (wrap_col0 h n), gather_col _ _ k n ⟨2 * n.val + 1, by omega⟩ (wrap_col1 h n),
    states_at, states_at]
  rw [← EReal.coe_sub, ← EReal.coe_neg, ← coe_max]
  rfl

end Cert.Proof.Ref
end
end
-- ==== Proof.RefScore.lean ====
module

public import proofs.«01_k».proof.Proof.RefAt

/-! The reference's scores read at an index, at the exact values. -/

@[expose] public section
set_option maxRecDepth 32768
noncomputable section
namespace Cert.Proof.Ref
open Cert.ReferenceIdeal Cert.ReferenceIdeal.Gen
open Idealize.ShloMosaic
open Cert.Proof.Best (bit)

/-! ## The rows and the scores -/

/-- The pixel of a row. -/
def px (j : Fin 262144) : Fin 4 × Fin 256 × Fin 256 := (⟨j.val / 65536, by omega⟩, ⟨j.val / 256 % 256, by omega⟩, ⟨j.val % 256, by omega⟩)

/-- A row of the clipped node probabilities. -/
theorem clip8_at (X : Vec Ideal S4x8x1x256x256 .f32) (j : Fin 262144) (t : Fin 8) :
    clip8 (rows8 X) (ix2 j t) = clipE (X (ix5 (px j).1 t 0 (px j).2.1 (px j).2.2)) := by
  pointwise [clip8, rows8]
  rfl
/-- A row of the clipped change probabilities. -/
theorem clip4_at (Y : Vec Ideal S4x4x1x256x256 .f32) (j : Fin 262144) (n : Fin 4) :
    clip4 (rows4 Y) (ix2 j n) = clipE (Y (ix5 (px j).1 n 0 (px j).2.1 (px j).2.2)) := by
  pointwise [clip4, rows4]
  rfl

/-- The nodes' part of the score, as sums. -/
theorem scoreV_at (P : Vec Ideal S262144x8 .f32) (S : Vec Ideal S256x8 .f32) (j : Fin 262144) (k : Fin 256) :
    scoreV P S (ix2 j k) = ∑ x : Fin 8, Ideal.log (P (ix2 j x)) * S (ix2 k x) + ∑ x : Fin 8, Ideal.log1p (-P (ix2 j x)) * (1 - S (ix2 k x)) := by
  pointwise [scoreV]
/-- The edges' part added, as sums. -/
theorem score_at (A : Vec Ideal S262144x256 .f32) (L C : Vec Ideal S262144x4 .f32) (Dt : Vec Ideal S4x256 .f32) (D : Vec Ideal S256x4 .f32)
    (j : Fin 262144) (k : Fin 256) :
    score A L C Dt D (ix2 j k) = A (ix2 j k) + ∑ x : Fin 4, L (ix2 j x) * Dt (ix2 x k) + ∑ x : Fin 4, Ideal.log1p (-C (ix2 j x)) * (1 - D (ix2 k x)) := by
  pointwise [score]

/-- A sum of real numbers among the extended ones. -/
theorem sum_coe {n : ℕ} (f : Fin n → ℝ) : ∑ i, ((f i : ℝ) : EReal) = ((∑ i, f i : ℝ) : EReal) := by
  induction n with
  | zero => simp
  | succ n ih => rw [Fin.sum_univ_castSucc, Fin.sum_univ_castSucc, EReal.coe_add, ih]

/-- The score of configuration `k` at a row. -/
theorem scores_at {E : IVec S4x2 32} (h : PairUp E) (X : Vec Ideal S4x8x1x256x256 .f32) (Y : Vec Ideal S4x4x1x256x256 .f32)
    (j : Fin 262144) (k : Fin 256) :
    scores X Y E (ix2 j k) = ((Best.score (fun t => l1 (X (ix5 (px j).1 t 0 (px j).2.1 (px j).2.2)))
      (fun t => l0 (X (ix5 (px j).1 t 0 (px j).2.1 (px j).2.2))) (fun n => l1 (Y (ix5 (px j).1 n 0 (px j).2.1 (px j).2.2)))
      (fun n => l0 (Y (ix5 (px j).1 n 0 (px j).2.1 (px j).2.2))) k.val : ℝ) : EReal) := by
  have hd : ∀ x : Fin 4, transpose S4x256 [1, 0] (cuts (F := Ideal) states E) transposes_S256x4_S4x256_1_0 (ix2 x k)
      = ((|bit k.val (2 * x.val) - bit k.val (2 * x.val + 1)| : ℝ) : EReal) := by
    intro x
    rw [← cuts_at h k x]
    pointwise
  have hl : ∀ x : Fin 4, Host.log (clip4 (rows4 Y)) (ix2 j x) = ((l1 (Y (ix5 (px j).1 x 0 (px j).2.1 (px j).2.2)) : ℝ) : EReal) := by
    intro x
    rw [← log_clip, ← clip4_at]
    rfl
  unfold scores
  rw [score_at, scoreV_at]
  simp only [hd, hl, states_at, cuts_at h, clip8_at, clip4_at, log_clip, log1p_clip, ← EReal.coe_one, ← EReal.coe_sub, ← EReal.coe_mul, sum_coe, ← EReal.coe_add]
  rfl

end Cert.Proof.Ref
end
end
-- ==== Proof.RefBest.lean ====
module

public import proofs.«01_k».proof.Proof.RefScore

/-! The configuration the reference takes at a pixel, and the bits of it that it returns. -/

@[expose] public section
set_option maxRecDepth 32768
noncomputable section
namespace Cert.Proof.Ref
open Cert.ReferenceIdeal Cert.ReferenceIdeal.Gen
open Idealize.ShloMosaic
open Cert.Proof.Best (bit)

/-- A configuration as a signed word. -/
theorem word_toInt (K : Fin 256) : (BitVec.ofNat 32 K.val).toInt = (K.val : Int) := by revert K; decide +kernel

/-- The literal of the arg-max's start is the least value. -/
theorem ninf_eq : Ideal.ofBits .f32 0xFF800000#32 = (⊥ : EReal) := by simp [Ideal.ofBits, Ideal.ieee]

/-- The arg-max of a row of finite values is the first column of largest value. -/
theorem argbest_at {m : ℕ} (s : FVec Ideal ⟨2, ![m, 256]⟩ .f32) (h : Shape.ReducesTo ⟨2, ![m, 256]⟩ [1] ⟨1, ![m]⟩) (hu : 0 < S_.numel)
    (j : Fin m) (f : ℕ → ℝ) (hs : ∀ k : Fin 256, s (ix2 j k) = ((f k.val : ℝ) : EReal))
    (K : Fin 256) (hf : ∀ k, f k < f K.val ∨ (f k = f K.val ∧ K.val ≤ k)) :
    (Host.argReduce reducer_argmax_f32_i32 s (iotaInDim ⟨2, ![m, 256]⟩ 32 1) (constant (F := Ideal) S_ .f32 0xFF800000#32) (constantI S_ 32 0#32)
      h hu (ix1 j)).2 = BitVec.ofNat 32 K.val := by
  have hi : ∀ k : Fin 256, iotaInDim ⟨2, ![m, 256]⟩ 32 1 (ix2 j k) = BitVec.ofNat 32 k.val := fun k => rfl
  have hz : constant (F := Ideal) S_ .f32 0xFF800000#32 (Shape.Idx.first hu) = (⊥ : EReal) := ninf_eq
  rw [argmax_at s (iotaInDim ⟨2, ![m, 256]⟩ 32 1) (constant (F := Ideal) S_ .f32 0xFF800000#32) (constantI S_ 32 0#32) h hu j K, hi]
  · refine .inr (.inl ?_)
    rw [hz, hs K]
    exact EReal.bot_lt_coe _
  · intro k
    rw [hi, hi, hs, hs]
    rcases hf k.val with h | ⟨h, h'⟩
    · exact .inr (.inl (EReal.coe_lt_coe_iff.mpr h))
    · rcases Nat.eq_or_lt_of_le h' with h' | h'
      · left
        rw [h']
      · refine .inr (.inr ⟨congrArg Real.toEReal h, ?_⟩)
        rw [word_toInt, word_toInt]
        exact Int.ofNat_lt.mpr h'

/-- The definition, as a function of the row. -/
theorem best_fun (s : FVec Ideal S262144x256 .f32) : best (F := Ideal) s = fun j =>
    (Host.argReduce reducer_argmax_f32_i32 s (iotaInDim S262144x256 32 1) (constant (F := Ideal) S_ .f32 0xFF800000#32) (constantI S_ 32 0#32)
      reducesTo_S262144x256_S262144_d1 h_S_ j).2 := rfl

/-- The best configuration of a row. -/
theorem best_at (s : FVec Ideal S262144x256 .f32) (j : Fin 262144) (f : ℕ → ℝ) (hs : ∀ k : Fin 256, s (ix2 j k) = ((f k.val : ℝ) : EReal))
    (K : Fin 256) (hf : ∀ k, f k < f K.val ∨ (f k = f K.val ∧ K.val ≤ k)) : best (F := Ideal) s (ix1 j) = BitVec.ofNat 32 K.val :=
  (congrFun (best_fun s) (ix1 j)).trans (argbest_at s reducesTo_S262144x256_S262144_d1 h_S_ j f hs K hf)

/-- An index that is not negative stays as it is. -/
theorem row_word (K : Fin 256) :
    Scalar.select (IntOp.cmpi CmpIPredicate.slt (BitVec.ofNat 32 K.val) 0#32) (IntOp.addi (BitVec.ofNat 32 K.val) 256#32) (BitVec.ofNat 32 K.val)
      = BitVec.ofNat 32 K.val := by
  revert K; decide +kernel

/-- An index below 256 passes the test of range. -/
theorem in_word (K : Fin 256) :
    IntOp.andi 1#1 (IntOp.andi (IntOp.cmpi .sge (BitVec.ofNat 32 K.val) 0#32) (IntOp.cmpi .sle (BitVec.ofNat 32 K.val) 255#32)) = 1#1
    ∧ IntOp.andi (IntOp.andi (IntOp.cmpi .sge (BitVec.ofNat 32 K.val) 0#32) (IntOp.cmpi .sle (BitVec.ofNat 32 K.val) 255#32)) 1#1 = 1#1 := by
  revert K; decide +kernel

/-- The index of a row. -/
theorem rowIx_at (b : IVec S262144 32) (j : Fin 262144) (K : Fin 256) (hb : b (ix1 j) = BitVec.ofNat 32 K.val) :
    rowIx b (ix2 j 0) = BitVec.ofNat 32 K.val := by
  pointwise [rowIx]
  rw [hb]
  exact row_word K

/-- The index is in range. -/
theorem inside_at (i : IVec S262144x1 32) (j : Fin 262144) (K : Fin 256) (hi : i (ix2 j 0) = BitVec.ofNat 32 K.val) :
    inside i (ix1 j) = 1#1 := by
  pointwise [inside]
  rw [Finset.univ_unique, Finset.fold_singleton, show (default : Fin 1) = 0 from rfl, hi]
  exact (in_word K).2

/-- The row of the table that is taken. -/
theorem taken_at (S : Vec Ideal S256x8 .f32) (b : IVec S262144 32) (j : Fin 262144) (t : Fin 8) (K : Fin 256)
    (hb : b (ix1 j) = BitVec.ofNat 32 K.val) : taken S b (ix2 j t) = S (ix2 K t) := by
  have h := rowIx_at b j K hb
  have e : taken S b (ix2 j t) = Scalar.select (inside (rowIx b) (ix1 j))
      (Host.gather gather_S256x8_S262144x1_S262144x8_1_0_n_n_0_1_18 S (rowIx b) (ix2 j t)) (Ideal.ofBits .f32 0x7FC00000#32) := by
    unfold taken
    generalize inside (rowIx b) = c
    generalize Host.gather gather_S256x8_S262144x1_S262144x8_1_0_n_n_0_1_18 S (rowIx b) = g
    pointwise
  rw [e, inside_at _ j K h, gather_row S _ j t K (by rw [h, word_toInt]; rfl)]
  rfl

/-- The logarithms at a pixel: of the eight nodes and of the four edges. -/
def u1 (X : Vec Ideal S4x8x1x256x256 .f32) (b : Fin 4) (h w : Fin 256) (t : Fin 8) : ℝ := l1 (X (ix5 b t 0 h w))
def u0 (X : Vec Ideal S4x8x1x256x256 .f32) (b : Fin 4) (h w : Fin 256) (t : Fin 8) : ℝ := l0 (X (ix5 b t 0 h w))
def c1 (Y : Vec Ideal S4x4x1x256x256 .f32) (b : Fin 4) (h w : Fin 256) (n : Fin 4) : ℝ := l1 (Y (ix5 b n 0 h w))
def c0 (Y : Vec Ideal S4x4x1x256x256 .f32) (b : Fin 4) (h w : Fin 256) (n : Fin 4) : ℝ := l0 (Y (ix5 b n 0 h w))

/-- The digit the comparisons choose at a pixel in pair `n`. -/
def dig (X : Vec Ideal S4x8x1x256x256 .f32) (Y : Vec Ideal S4x4x1x256x256 .f32) (b : Fin 4) (h w : Fin 256) : Fin 4 → ℕ :=
  Best.choice (u1 X b h w) (u0 X b h w) (c1 Y b h w) (c0 Y b h w)

/-- A row of the reference's result. -/
theorem row_taken {E : IVec S4x2 32} (hE : PairUp E) (X : Vec Ideal S4x8x1x256x256 .f32) (Y : Vec Ideal S4x4x1x256x256 .f32)
    (j : Fin 262144) (t : Fin 8) :
    taken (F := Ideal) states (best (scores X Y E)) (ix2 j t) = ((bit (Best.join (dig X Y (px j).1 (px j).2.1 (px j).2.2)) t.val : ℝ) : EReal) := by
  rw [taken_at (states (F := Ideal)) _ j t ⟨Best.join (dig X Y (px j).1 (px j).2.1 (px j).2.2), Best.join_lt (Best.choice_lt _ _ _ _)⟩, states_at]
  exact best_at _ j _ (fun k => scores_at hE X Y j k) ⟨_, Best.join_lt (Best.choice_lt _ _ _ _)⟩ (fun k => Best.choice_best _ _ _ _ k)

/-- The reference's result at a pixel: bit `t` of the configuration chosen pair by pair. -/
theorem refVal_at {E : IVec S4x2 32} (hE : PairUp E) (X : Vec Ideal S4x8x1x256x256 .f32) (Y : Vec Ideal S4x4x1x256x256 .f32)
    (b : Fin 4) (t : Fin 8) (h w : Fin 256) :
    refVal (F := Ideal) X Y E (ix5 b t 0 h w) = ((bit (Best.join (dig X Y b h w)) t.val : ℝ) : EReal) := by
  have e : refVal (F := Ideal) X Y E (ix5 b t 0 h w)
      = taken (F := Ideal) states (best (scores X Y E)) (ix2 ⟨b.val * 65536 + h.val * 256 + w.val, by omega⟩ t) := by
    unfold refVal
    generalize taken (F := Ideal) states (best (scores X Y E)) = x
    pointwise [laid]
  rw [e, row_taken hE]
  have h1 : (px ⟨b.val * 65536 + h.val * 256 + w.val, by omega⟩).1 = b := Fin.ext (by simp only [px]; omega)
  have h2 : (px ⟨b.val * 65536 + h.val * 256 + w.val, by omega⟩).2.1 = h := Fin.ext (by simp only [px]; omega)
  have h3 : (px ⟨b.val * 65536 + h.val * 256 + w.val, by omega⟩).2.2 = w := Fin.ext (by simp only [px]; omega)
  rw [h1, h2, h3]

end Cert.Proof.Ref
end
end
-- ==== Proof.KerAt.lean ====
module

public import proofs.«01_k».proof.Proof.Contents
public import proofs.«01_k».proof.Proof.RefBest

/-! The kernel's result at a pixel, at the exact values: the two bits of the digit its comparisons choose. -/

@[expose] public section
set_option maxRecDepth 32768
noncomputable section
namespace Cert.Proof.Body
open Cert.Kernel Cert.Kernel.Gen
open Idealize.ShloMosaic
open Cert.Proof.Best (bit pick)
open Cert.Proof.Ref (clipE l1 l0)

/-- The two ways to name an index of rank five. -/
theorem i5_eq {A B : ℕ} (a : Fin A) (b : Fin B) (h w : Fin 256) : i5 a b h w = ix5 a b 0 h w := by
  apply i5_ext <;> rfl

/-- A block's log odds at a pixel: the rounding to a shorter format is the identity here. -/
theorem logit_at (v : FVec Ideal S1x1x1x256x256 .f32) (h w : Fin 256) :
    logit (F := Ideal) v (ix2 h w) = ((l1 (v (ix5 0 0 0 h w)) - l0 (v (ix5 0 0 0 h w)) : ℝ) : EReal) := by
  have e : logit (F := Ideal) v (ix2 h w)
      = (Ideal.log (clipE (v (ix5 0 0 0 h w))) - Ideal.log (1 - clipE (v (ix5 0 0 0 h w))) : EReal) := by
    pointwise [logit, logr, clip]
    rfl
  rw [e, Ref.log_clip, Ref.log_one_sub, ← EReal.coe_sub]

section Pair
variable (va vb vc : FVec Ideal S1x1x1x256x256 .f32) (h w : Fin 256)

/-- The log odds of a block at a pixel. -/
def odds (v : FVec Ideal S1x1x1x256x256 .f32) (h w : Fin 256) : ℝ := l1 (v (ix5 0 0 0 h w)) - l0 (v (ix5 0 0 0 h w))

/-- A comparison of real numbers, as a bit. -/
theorem gt_bit (a b : ℝ) : Ideal.cmp .ogt (a : EReal) (b : EReal) = if b < a then 1#1 else 0#1 := by
  unfold Ideal.cmp
  simp only [EReal.coe_lt_coe_iff]
  split_ifs with h <;> simp [h]

/-- The three relative scores at a pixel. -/
theorem s10_at : s10 (F := Ideal) va vc (ix2 h w) = ((odds va h w + odds vc h w : ℝ) : EReal) := by
  rw [EReal.coe_add]; unfold odds; rw [← logit_at, ← logit_at]; rfl
theorem s01_at : s01 (F := Ideal) vb vc (ix2 h w) = ((odds vb h w + odds vc h w : ℝ) : EReal) := by
  rw [EReal.coe_add]; unfold odds; rw [← logit_at, ← logit_at]; rfl
theorem s11_at : s11 (F := Ideal) va vb (ix2 h w) = ((odds va h w + odds vb h w : ℝ) : EReal) := by
  rw [EReal.coe_add]; unfold odds; rw [← logit_at, ← logit_at]; rfl

/-- Whether the second node's state is 1, at a pixel. -/
theorem mb_at : mb (F := Ideal) va vb vc (ix2 h w)
    = if max (odds va h w + odds vc h w) 0 < max (odds vb h w + odds vc h w) (odds va h w + odds vb h w) then 1#1 else 0#1 := by
  have e : mb (F := Ideal) va vb vc (ix2 h w)
      = Ideal.cmp .ogt (max (s01 (F := Ideal) vb vc (ix2 h w)) (s11 (F := Ideal) va vb (ix2 h w)) : EReal) (max (s10 (F := Ideal) va vc (ix2 h w)) (0 : EReal)) := by
    unfold mb
    generalize s01 (F := Ideal) vb vc = x
    generalize s11 (F := Ideal) va vb = y
    generalize s10 (F := Ideal) va vc = z
    pointwise
  rw [e, s10_at, s01_at, s11_at, ← Ref.coe_max, ← EReal.coe_zero, ← Ref.coe_max, gt_bit]

/-- The second node's state is the high bit of the digit chosen. -/
theorem outB_at : outB (F := Ideal) va vb vc (ix5 0 0 0 h w) = ((bit (pick (odds va h w) (odds vb h w) (odds vc h w)) 1 : ℝ) : EReal) := by
  have e : outB (F := Ideal) va vb vc (ix5 0 0 0 h w) = Scalar.select (mb (F := Ideal) va vb vc (ix2 h w)) (1 : EReal) 0 := by
    unfold outB
    generalize mb (F := Ideal) va vb vc = x
    pointwise
  rw [e, mb_at]
  unfold pick
  split_ifs <;> simp [Scalar.select, bit]

/-- The first node's state is the low bit of the digit chosen. -/
theorem outA_at : outA (F := Ideal) va vb vc (ix5 0 0 0 h w) = ((bit (pick (odds va h w) (odds vb h w) (odds vc h w)) 0 : ℝ) : EReal) := by
  have e : outA (F := Ideal) va vb vc (ix5 0 0 0 h w) = Scalar.select (mb (F := Ideal) va vb vc (ix2 h w))
      (Scalar.select (Ideal.cmp .ogt (s11 (F := Ideal) va vb (ix2 h w)) (s01 (F := Ideal) vb vc (ix2 h w))) (1 : EReal) 0)
      (Scalar.select (Ideal.cmp .ogt (s10 (F := Ideal) va vc (ix2 h w)) (0 : EReal)) (1 : EReal) 0) := by
    unfold outA
    generalize mb (F := Ideal) va vb vc = m
    generalize s01 (F := Ideal) vb vc = x
    generalize s11 (F := Ideal) va vb = y
    generalize s10 (F := Ideal) va vc = z
    pointwise
  rw [e, mb_at, s10_at, s01_at, s11_at, ← EReal.coe_zero, gt_bit, gt_bit]
  unfold pick
  split_ifs <;> simp [Scalar.select, bit]
end Pair

/-- The kernel's result is the reference's where the edges pair the nodes up. -/
theorem result_eq {E : IVec S4x2 32} (hE : Ref.PairUp E) (X : FVec Ideal S4x8x1x256x256 .f32) (Y : FVec Ideal S4x4x1x256x256 .f32) :
    result (F := Ideal) X Y = Ref.refVal (F := Ideal) X Y E := by
  funext i
  obtain ⟨b, t, h, w, rfl⟩ : ∃ (b : Fin 4) (t : Fin 8) (h w : Fin 256), i = ix5 b t 0 h w :=
    ⟨i 0, i 1, i 3, i 4, (eq_ix5 i).trans (congrArg (fun c : Fin 1 => ix5 (i 0) (i 1) c (i 3) (i 4)) (Subsingleton.elim (α := Fin 1) (i 2) 0))⟩
  rw [Ref.refVal_at hE]
  have hn : ∀ a : Fin 8, nodeBlk (F := Ideal) X b a (ix5 0 0 0 h w) = X (ix5 b a 0 h w) := fun a => congrArg X (i5_eq b a h w)
  have hc : ∀ n : Fin 4, chBlk (F := Ideal) Y b n (ix5 0 0 0 h w) = Y (ix5 b n 0 h w) := fun n => congrArg Y (i5_eq b n h w)
  have hd : ∀ n : Fin 4, pick (odds (nodeBlk (F := Ideal) X b (nodeA n)) h w) (odds (nodeBlk (F := Ideal) X b (nodeB n)) h w) (odds (chBlk (F := Ideal) Y b n) h w)
      = Ref.dig X Y b h w n := by
    intro n
    unfold odds
    rw [hn, hn, hc]
    rfl
  have ha := Best.bit_low (Best.join (Ref.dig X Y b h w)) (pairOf t)
  have hb := Best.bit_high (Best.join (Ref.dig X Y b h w)) (pairOf t)
  rw [Best.digit_join (show ∀ n, Ref.dig X Y b h w n < 4 from Best.choice_lt _ _ _ _)] at ha hb
  show (if t.val % 2 = 0 then resA (F := Ideal) X Y b (pairOf t) (i5 0 0 h w) else resB (F := Ideal) X Y b (pairOf t) (i5 0 0 h w)) = _
  rw [i5_eq]
  split_ifs with ht
  · unfold resA
    rw [outA_at, hd, ha]
    congr 2
    show 2 * (t.val / 2) = t.val
    omega
  · unfold resB
    rw [outB_at, hd, hb]
    congr 2
    show 2 * (t.val / 2) + 1 = t.val
    omega

end Cert.Proof.Body
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal
public import proofs.«01_k».proof.Proof.Gen.Pre_edges_pair_up
public import proofs.«01_k».proof.Proof.Twin
public import proofs.«01_k».proof.Proof.RefStages
public import proofs.«01_k».proof.Proof.KerAt
public import Idealize.ShloMosaic.Adequacy
public import Idealize.ShloMosaic.Init

@[expose] public section

noncomputable section

namespace Cert.Proof

open Idealize.ShloMosaic Idealize.SL.Sem Cert.Kernel

/-- The kernel and the reference end with one result, at the exact values, where the edges pair the nodes up. -/
theorem equal : Cert.algebraic_KernelIdeal_ReferenceIdeal_pre_edges_pair_up (hKernelIdeal := Cert.KernelIdeal.Gen.facts)
    (hReferenceIdeal := Cert.ReferenceIdeal.Gen.facts) (hPre_edges_pair_up := Cert.Pre_edges_pair_up.Gen.facts) := by
  intro m g m' g' hpre hag
  refine ⟨_, (θ_run _ _ _).mono (fun _ h => h.1) (Body.run_ideal m g), (θ_run _ _ _).mono (fun _ h c => ⟨(h.1 c).1.trans ?_, (h.1 c).2⟩) (Ref.run_ref m' g')⟩
  obtain ⟨e0, e1, e2⟩ := hag c
  rw [e0, e1, e2]
  exact (Body.result_eq (Ref.pairUp_of_pre _ _ _ (hpre c)) _ _).symm

theorem claim : Cert.Claim := ⟨Cert.Kernel.Gen.facts, Cert.KernelIdeal.Gen.facts, Cert.ReferenceIdeal.Gen.facts, Cert.Pre_edges_pair_up.Gen.facts,
  fun m g _ => (θ_run _ _ _).mono (fun _ h => ⟨fun c => (h.1 c).2, h.2⟩) (Body.run_main m g),
  fun m g _ => (θ_run _ _ _).mono (fun _ h => ⟨fun c => (h.1 c).2, h.2⟩) (Body.run_ideal m g),
  fun m g _ => (θ_run _ _ _).mono (fun _ h => ⟨fun c => (h.1 c).2, h.2⟩) (Body.run_ideal m g),
  fun m g _ => (θ_run _ _ _).mono (fun _ h => ⟨fun c => (h.1 c).2, h.2⟩) (Ref.run_ref m g),
  fun m g _ => (θ_run _ _ _).mono (fun _ h => ⟨fun c => (h.1 c).2, h.2⟩) (Ref.run_ref m g),
  trivial,
  equal⟩

end Cert.Proof

end
